-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x16x64 : Shape := ⟨4, ![2, 768, 16, 64]⟩
abbrev S2x768x16 : Shape := ⟨3, ![2, 768, 16]⟩
abbrev S2x16x64x64 : Shape := ⟨4, ![2, 16, 64, 64]⟩
abbrev S2x768 : Shape := ⟨2, ![2, 768]⟩
abbrev S2x16x768x64 : Shape := ⟨4, ![2, 16, 768, 64]⟩
abbrev S32x768x64 : Shape := ⟨3, ![32, 768, 64]⟩
abbrev S2x16x768 : Shape := ⟨3, ![2, 16, 768]⟩
abbrev S32x768x1 : Shape := ⟨3, ![32, 768, 1]⟩
abbrev S32x64x64 : Shape := ⟨3, ![32, 64, 64]⟩
abbrev S2x768x1 : Shape := ⟨3, ![2, 768, 1]⟩
abbrev S8x32x64 : Shape := ⟨3, ![8, 32, 64]⟩
abbrev S8x32x1 : Shape := ⟨3, ![8, 32, 1]⟩
abbrev S8x64x64 : Shape := ⟨3, ![8, 64, 64]⟩
abbrev S1x32x1 : Shape := ⟨3, ![1, 32, 1]⟩
abbrev S1x32x64 : Shape := ⟨3, ![1, 32, 64]⟩
abbrev S32x64 : Shape := ⟨2, ![32, 64]⟩
abbrev S32x1 : Shape := ⟨2, ![32, 1]⟩
abbrev S1x1x64 : Shape := ⟨3, ![1, 1, 64]⟩
abbrev S1x64 : Shape := ⟨2, ![1, 64]⟩
abbrev S1x1x1 : Shape := ⟨3, ![1, 1, 1]⟩
abbrev S1x1 : Shape := ⟨2, ![1, 1]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩
abbrev S128x64 : Shape := ⟨2, ![128, 64]⟩
abbrev S64x128 : Shape := ⟨2, ![64, 128]⟩

abbrev nBuf : Space → Nat
  | .hbm => 37
  | .vmem => 34
  | .smem => 0
  | _ => 0

abbrev bufTy : (tb : Table) → Fin (tcTables nBuf tb) → BufTy
  | .hbm, ⟨0, _⟩ => ⟨S2x768x16x64, .fp8e4m3⟩
  | .hbm, ⟨1, _⟩ => ⟨S2x768x16x64, .fp8e4m3⟩
  | .hbm, ⟨2, _⟩ => ⟨S2x768x16x64, .fp8e4m3⟩
  | .hbm, ⟨3, _⟩ => ⟨S2x768x16, .f32⟩
  | .hbm, ⟨4, _⟩ => ⟨S2x768x16, .f32⟩
  | .hbm, ⟨5, _⟩ => ⟨S2x768x16, .f32⟩
  | .hbm, ⟨6, _⟩ => ⟨S2x768x16x64, .bf16⟩
  | .hbm, ⟨7, _⟩ => ⟨S2x768x16x64, .bf16⟩
  | .hbm, ⟨8, _⟩ => ⟨S2x768x16x64, .bf16⟩
  | .hbm, ⟨9, _⟩ => ⟨S2x16x64x64, .f32⟩
  | .hbm, ⟨10, _⟩ => ⟨S2x768, .i1⟩
  | .hbm, ⟨11, _⟩ => ⟨S2x768, .f32⟩
  | .hbm, ⟨12, _⟩ => ⟨S2x16x768x64, .fp8e4m3⟩
  | .hbm, ⟨13, _⟩ => ⟨S32x768x64, .fp8e4m3⟩
  | .hbm, ⟨14, _⟩ => ⟨S2x16x768x64, .fp8e4m3⟩
  | .hbm, ⟨15, _⟩ => ⟨S32x768x64, .fp8e4m3⟩
  | .hbm, ⟨16, _⟩ => ⟨S2x16x768x64, .fp8e4m3⟩
  | .hbm, ⟨17, _⟩ => ⟨S32x768x64, .fp8e4m3⟩
  | .hbm, ⟨18, _⟩ => ⟨S2x16x768, .f32⟩
  | .hbm, ⟨19, _⟩ => ⟨S32x768x1, .f32⟩
  | .hbm, ⟨20, _⟩ => ⟨S2x16x768, .f32⟩
  | .hbm, ⟨21, _⟩ => ⟨S32x768x1, .f32⟩
  | .hbm, ⟨22, _⟩ => ⟨S2x16x768, .f32⟩
  | .hbm, ⟨23, _⟩ => ⟨S32x768x1, .f32⟩
  | .hbm, ⟨24, _⟩ => ⟨S2x16x768x64, .bf16⟩
  | .hbm, ⟨25, _⟩ => ⟨S32x768x64, .bf16⟩
  | .hbm, ⟨26, _⟩ => ⟨S2x16x768x64, .bf16⟩
  | .hbm, ⟨27, _⟩ => ⟨S32x768x64, .bf16⟩
  | .hbm, ⟨28, _⟩ => ⟨S2x16x768x64, .bf16⟩
  | .hbm, ⟨29, _⟩ => ⟨S32x768x64, .bf16⟩
  | .hbm, ⟨30, _⟩ => ⟨S32x64x64, .f32⟩
  | .hbm, ⟨31, _⟩ => ⟨S2x768x1, .f32⟩
  | .hbm, ⟨32, _⟩ => ⟨S32x768x64, .bf16⟩
  | .hbm, ⟨33, _⟩ => ⟨S32x64x64, .f32⟩
  | .hbm, ⟨34, _⟩ => ⟨S2x16x768x64, .bf16⟩
  | .hbm, ⟨35, _⟩ => ⟨S2x768x16x64, .bf16⟩
  | .hbm, ⟨36, _⟩ => ⟨S2x16x64x64, .f32⟩
  | .local _ .vmem, ⟨0, _⟩ => ⟨S8x32x64, .fp8e4m3⟩
  | .local _ .vmem, ⟨1, _⟩ => ⟨S8x32x64, .fp8e4m3⟩
  | .local _ .vmem, ⟨2, _⟩ => ⟨S8x32x64, .fp8e4m3⟩
  | .local _ .vmem, ⟨3, _⟩ => ⟨S8x32x64, .fp8e4m3⟩
  | .local _ .vmem, ⟨4, _⟩ => ⟨S8x32x64, .fp8e4m3⟩
  | .local _ .vmem, ⟨5, _⟩ => ⟨S8x32x64, .fp8e4m3⟩
  | .local _ .vmem, ⟨6, _⟩ => ⟨S8x32x1, .f32⟩
  | .local _ .vmem, ⟨7, _⟩ => ⟨S8x32x1, .f32⟩
  | .local _ .vmem, ⟨8, _⟩ => ⟨S8x32x1, .f32⟩
  | .local _ .vmem, ⟨9, _⟩ => ⟨S8x32x1, .f32⟩
  | .local _ .vmem, ⟨10, _⟩ => ⟨S8x32x1, .f32⟩
  | .local _ .vmem, ⟨11, _⟩ => ⟨S8x32x1, .f32⟩
  | .local _ .vmem, ⟨12, _⟩ => ⟨S8x32x64, .bf16⟩
  | .local _ .vmem, ⟨13, _⟩ => ⟨S8x32x64, .bf16⟩
  | .local _ .vmem, ⟨14, _⟩ => ⟨S8x32x64, .bf16⟩
  | .local _ .vmem, ⟨15, _⟩ => ⟨S8x32x64, .bf16⟩
  | .local _ .vmem, ⟨16, _⟩ => ⟨S8x32x64, .bf16⟩
  | .local _ .vmem, ⟨17, _⟩ => ⟨S8x32x64, .bf16⟩
  | .local _ .vmem, ⟨18, _⟩ => ⟨S8x64x64, .f32⟩
  | .local _ .vmem, ⟨19, _⟩ => ⟨S8x64x64, .f32⟩
  | .local _ .vmem, ⟨20, _⟩ => ⟨S1x32x1, .f32⟩
  | .local _ .vmem, ⟨21, _⟩ => ⟨S1x32x1, .f32⟩
  | .local _ .vmem, ⟨22, _⟩ => ⟨S8x32x64, .bf16⟩
  | .local _ .vmem, ⟨23, _⟩ => ⟨S8x32x64, .bf16⟩
  | .local _ .vmem, ⟨24, _⟩ => ⟨S8x64x64, .f32⟩
  | .local _ .vmem, ⟨25, _⟩ => ⟨S8x64x64, .f32⟩
  | .local _ .vmem, ⟨26, _⟩ => ⟨S8x64x64, .f32⟩
  | .local _ .vmem, ⟨27, _⟩ => ⟨S8x32x64, .f32⟩
  | .local _ .vmem, ⟨28, _⟩ => ⟨S8x32x64, .f32⟩
  | .local _ .vmem, ⟨29, _⟩ => ⟨S8x32x64, .f32⟩
  | .local _ .vmem, ⟨30, _⟩ => ⟨S8x32x64, .f32⟩
  | .local _ .vmem, ⟨31, _⟩ => ⟨S8x32x64, .f32⟩
  | .local _ .vmem, ⟨32, _⟩ => ⟨S8x32x64, .f32⟩
  | .local _ .vmem, ⟨33, _⟩ => ⟨S8x32x64, .f32⟩
  | _, _ => ⟨S2x768x16x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 24], ![false, false]⟩

@[reducible] def k0_t1_loop : Scf.Loop 32 :=
  let c0_i32_384 : BitVec 32 := 0#32
  let c32_i32 : BitVec 32 := 32#32
  let v451 : BitVec 32 := Scalar.addi c0_i32_384 c32_i32
  let c1_i32 : BitVec 32 := 1#32
  ⟨c0_i32_384, v451, c1_i32⟩
def k0_off1 (k0_t1 : Fin k0_t1_loop.trips) : Fin 3 → Nat :=
  let c0_393 : Index := 0#32
  let c0_i32_384 : BitVec 32 := 0#32
  let c1_i32 : BitVec 32 := 1#32
  let arg23 : BitVec 32 := Scf.iv c0_i32_384 c1_i32 k0_t1
  let v458 : Index := Scalar.indexCast arg23
  let c0_394 : Index := 0#32
  ![0, v458.toNat, 0]
def k0_off2 (k0_t1 : Fin k0_t1_loop.trips) : Fin 3 → Nat :=
  let c0_405 : Index := 0#32
  let c0_i32_384 : BitVec 32 := 0#32
  let c1_i32 : BitVec 32 := 1#32
  let arg23 : BitVec 32 := Scf.iv c0_i32_384 c1_i32 k0_t1
  let v476 : Index := Scalar.indexCast arg23
  let c0_406 : Index := 0#32
  ![0, v476.toNat, 0]
def k0_off3 (k0_t1 : Fin k0_t1_loop.trips) : Fin 3 → Nat :=
  let c1_422 : Index := 1#32
  let c0_i32_384 : BitVec 32 := 0#32
  let c1_i32 : BitVec 32 := 1#32
  let arg23 : BitVec 32 := Scf.iv c0_i32_384 c1_i32 k0_t1
  let v525 : Index := Scalar.indexCast arg23
  let c0_423 : Index := 0#32
  ![1, v525.toNat, 0]
def k0_off4 (k0_t1 : Fin k0_t1_loop.trips) : Fin 3 → Nat :=
  let c2_451 : Index := 2#32
  let c0_i32_384 : BitVec 32 := 0#32
  let c1_i32 : BitVec 32 := 1#32
  let arg23 : BitVec 32 := Scf.iv c0_i32_384 c1_i32 k0_t1
  let v592 : Index := Scalar.indexCast arg23
  let c0_452 : Index := 0#32
  ![2, v592.toNat, 0]
def k0_off5 (k0_t1 : Fin k0_t1_loop.trips) : Fin 3 → Nat :=
  let c3_480 : Index := 3#32
  let c0_i32_384 : BitVec 32 := 0#32
  let c1_i32 : BitVec 32 := 1#32
  let arg23 : BitVec 32 := Scf.iv c0_i32_384 c1_i32 k0_t1
  let v659 : Index := Scalar.indexCast arg23
  let c0_481 : Index := 0#32
  ![3, v659.toNat, 0]
def k0_off6 (k0_t1 : Fin k0_t1_loop.trips) : Fin 3 → Nat :=
  let c4_509 : Index := 4#32
  let c0_i32_384 : BitVec 32 := 0#32
  let c1_i32 : BitVec 32 := 1#32
  let arg23 : BitVec 32 := Scf.iv c0_i32_384 c1_i32 k0_t1
  let v726 : Index := Scalar.indexCast arg23
  let c0_510 : Index := 0#32
  ![4, v726.toNat, 0]
def k0_off7 (k0_t1 : Fin k0_t1_loop.trips) : Fin 3 → Nat :=
  let c5_538 : Index := 5#32
  let c0_i32_384 : BitVec 32 := 0#32
  let c1_i32 : BitVec 32 := 1#32
  let arg23 : BitVec 32 := Scf.iv c0_i32_384 c1_i32 k0_t1
  let v793 : Index := Scalar.indexCast arg23
  let c0_539 : Index := 0#32
  ![5, v793.toNat, 0]
def k0_off8 (k0_t1 : Fin k0_t1_loop.trips) : Fin 3 → Nat :=
  let c6_567 : Index := 6#32
  let c0_i32_384 : BitVec 32 := 0#32
  let c1_i32 : BitVec 32 := 1#32
  let arg23 : BitVec 32 := Scf.iv c0_i32_384 c1_i32 k0_t1
  let v860 : Index := Scalar.indexCast arg23
  let c0_568 : Index := 0#32
  ![6, v860.toNat, 0]
def k0_off9 (k0_t1 : Fin k0_t1_loop.trips) : Fin 3 → Nat :=
  let c7_596 : Index := 7#32
  let c0_i32_384 : BitVec 32 := 0#32
  let c1_i32 : BitVec 32 := 1#32
  let arg23 : BitVec 32 := Scf.iv c0_i32_384 c1_i32 k0_t1
  let v927 : Index := Scalar.indexCast arg23
  let c0_597 : Index := 0#32
  ![7, v927.toNat, 0]
def k0_cond2 (i : grid0.Coords) : BitVec 1 :=
  let arg1 : BitVec 32 := BitVec.ofNat 32 (i 1).val
  let c23_i32 : BitVec 32 := 23#32
  let v455 : BitVec 1 := Scalar.cmpi .eq arg1 c23_i32
  let v456 : BitVec 32 := Scalar.extui v455
  let c0_i32_392 : BitVec 32 := 0#32
  let v457 : BitVec 1 := Scalar.cmpi .ne v456 c0_i32_392
  v457

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x64 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x32x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x32x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x32x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2x768x16x64 : Shape := ⟨4, ![2, 768, 16, 64]⟩
abbrev S2x768x16 : Shape := ⟨3, ![2, 768, 16]⟩
abbrev S2x16x64x64 : Shape := ⟨4, ![2, 16, 64, 64]⟩
abbrev S2x768 : Shape := ⟨2, ![2, 768]⟩
abbrev S2x1x16x64 : Shape := ⟨4, ![2, 1, 16, 64]⟩
abbrev S2x16x64 : Shape := ⟨3, ![2, 16, 64]⟩
abbrev S2x1x16 : Shape := ⟨3, ![2, 1, 16]⟩
abbrev S2x16 : Shape := ⟨2, ![2, 16]⟩
abbrev S2x16x1 : Shape := ⟨3, ![2, 16, 1]⟩
abbrev S2x1 : Shape := ⟨2, ![2, 1]⟩
abbrev S2 : Shape := ⟨1, ![2]⟩
abbrev S2x1x1x1 : Shape := ⟨4, ![2, 1, 1, 1]⟩
abbrev S2x16x1x64 : Shape := ⟨4, ![2, 16, 1, 64]⟩
abbrev S2x16x64x1 : Shape := ⟨4, ![2, 16, 64, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x768x16x64, .fp8e4m3⟩
  | .hbm, ⟨1, _⟩ => ⟨S2x768x16x64, .fp8e4m3⟩
  | .hbm, ⟨2, _⟩ => ⟨S2x768x16x64, .fp8e4m3⟩
  | .hbm, ⟨3, _⟩ => ⟨S2x768x16, .f32⟩
  | .hbm, ⟨4, _⟩ => ⟨S2x768x16, .f32⟩
  | .hbm, ⟨5, _⟩ => ⟨S2x768x16, .f32⟩
  | .hbm, ⟨6, _⟩ => ⟨S2x768x16x64, .bf16⟩
  | .hbm, ⟨7, _⟩ => ⟨S2x768x16x64, .bf16⟩
  | .hbm, ⟨8, _⟩ => ⟨S2x768x16x64, .bf16⟩
  | .hbm, ⟨9, _⟩ => ⟨S2x16x64x64, .f32⟩
  | .hbm, ⟨10, _⟩ => ⟨S2x768, .i1⟩
  | .hbm, ⟨11, _⟩ => ⟨S2x768, .i32⟩
  | .hbm, ⟨12, _⟩ => ⟨S2x768x16x64, .bf16⟩
  | .hbm, ⟨13, _⟩ => ⟨S2x16x64x64, .f32⟩
  | .local _ .vmem, ⟨0, _⟩ => ⟨S2x768x16x64, .fp8e4m3⟩
  | .local _ .vmem, ⟨1, _⟩ => ⟨S2x768x16x64, .fp8e4m3⟩
  | .local _ .vmem, ⟨2, _⟩ => ⟨S2x768x16x64, .fp8e4m3⟩
  | .local _ .vmem, ⟨3, _⟩ => ⟨S2x768x16, .f32⟩
  | .local _ .vmem, ⟨4, _⟩ => ⟨S2x768x16, .f32⟩
  | .local _ .vmem, ⟨5, _⟩ => ⟨S2x768x16, .f32⟩
  | .local _ .vmem, ⟨6, _⟩ => ⟨S2x768x16x64, .bf16⟩
  | .local _ .vmem, ⟨7, _⟩ => ⟨S2x768x16x64, .bf16⟩
  | .local _ .vmem, ⟨8, _⟩ => ⟨S2x768x16x64, .bf16⟩
  | .local _ .vmem, ⟨9, _⟩ => ⟨S2x16x64x64, .f32⟩
  | .local _ .vmem, ⟨10, _⟩ => ⟨S2x768, .i32⟩
  | .local _ .vmem, ⟨11, _⟩ => ⟨S2x768x16x64, .bf16⟩
  | .local _ .vmem, ⟨12, _⟩ => ⟨S2x16x64x64, .f32⟩
  | _, _ => ⟨S2x768x16x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c768_i32 : BitVec 32 := 768#32
  let v1 : BitVec 32 := Scalar.addi c0_i32 c768_i32
  let c1_i32 : BitVec 32 := 1#32
  ⟨c0_i32, v1, c1_i32⟩
def k0_off1 (k0_t1 : Fin k0_t1_loop.trips) : Fin 4 → Nat :=
  let c0_8 : Index := 0#32
  let c0_i32 : BitVec 32 := 0#32
  let c1_i32 : BitVec 32 := 1#32
  let arg13 : BitVec 32 := Scf.iv c0_i32 c1_i32 k0_t1
  let v4 : Index := Scalar.indexCast arg13
  let c0_9 : Index := 0#32
  let c0_10 : Index := 0#32
  ![0, v4.toNat, 0, 0]
def k0_off2 (k0_t1 : Fin k0_t1_loop.trips) : Fin 3 → Nat :=
  let c0_11 : Index := 0#32
  let c0_i32 : BitVec 32 := 0#32
  let c1_i32 : BitVec 32 := 1#32
  let arg13 : BitVec 32 := Scf.iv c0_i32 c1_i32 k0_t1
  let v8 : Index := Scalar.indexCast arg13
  let c0_12 : Index := 0#32
  ![0, v8.toNat, 0]
def k0_off3 (k0_t1 : Fin k0_t1_loop.trips) : Fin 2 → Nat :=
  let c0_33 : Index := 0#32
  let c0_i32 : BitVec 32 := 0#32
  let c1_i32 : BitVec 32 := 1#32
  let arg13 : BitVec 32 := Scf.iv c0_i32 c1_i32 k0_t1
  let v53 : Index := Scalar.indexCast arg13
  ![0, v53.toNat]
abbrev stage0_0 : Fin 1 → Memref sig .tc .vmem S2x768x16x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x16x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x16x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768x16x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768x16x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x768x16x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x768 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x768x16x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Head.lean ====
/- One token of one head: what a trip of the token loop computes for a head from the rows of the six scratch
   arrays, the start flag, the initial state and the state before the token; and what it computes for all eight
   heads of a grid point, as one function of whole arrays. -/
module

public import proofs.«01_k».proof.Proof.Gen.KernelIdeal.Loops
public import Idealize.ShloMosaic.Lib.VecWindow
public import Idealize.ShloMosaic.Lib.Pointwise

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The state of one head after a token: rows `k v w kk b` of the token, start flag `st`, initial state `s0`, state `s` before. -/
def headS (k v w kk b : Vec F S1x1x64 .f32) (st : Vec F S1x1x1 .f32) (s0 s : Vec F S1x64x64 .f32) : FVec F S1x64x64 .f32 :=
  k0_pay18 (k0_pay14 k) (k0_pay15 v) (k0_pay16 w) kk b st s0 s

/-- The output row of one head for a token, from the same and the row `r`. -/
def headY (r k v w kk b : Vec F S1x1x64 .f32) (st : Vec F S1x1x1 .f32) (s0 s : Vec F S1x64x64 .f32) : FVec F S1x1x64 .f32 :=
  k0_pay20 (k0_pay17 (k0_pay14 k) (k0_pay15 v) (k0_pay16 w) kk b st s0 s) (k0_pay19 (k0_pay13 r))

/-- Where trip `k` finds head `h`'s row in the scratch arrays. -/
def toff (k : Fin k0_t1_loop.trips) (h : Fin 8) : Fin 3 → ℕ :=
  match h with
  | 0 => k0_off1 k | 1 => k0_off3 k | 2 => k0_off4 k | 3 => k0_off5 k
  | 4 => k0_off6 k | 5 => k0_off7 k | 6 => k0_off8 k | 7 => k0_off9 k

/-- Head `h`'s row of trip `k` starts at `(h, k, 0)`. -/
theorem toff_eq : ∀ (k : Fin k0_t1_loop.trips) (h : Fin 8), toff k h = ![h.val, k.val, 0] := by decide +kernel

/-- The row lies in the scratch array. -/
theorem toff_inb : ∀ (k : Fin k0_t1_loop.trips) (h : Fin 8), ∀ a, toff k h a + S1x1x64.size a ≤ S8x32x64.size a := by decide +kernel

/-- The row at `(h, k, 0)` lies in the scratch array. -/
theorem row_inb : ∀ (k : Fin k0_t1_loop.trips) (h : Fin 8), ∀ a, (![h.val, k.val, 0] : Fin 3 → ℕ) a + S1x1x64.size a ≤ S8x32x64.size a := by decide +kernel

/-- Head `h`'s slab lies in the state array. -/
theorem slab_inb : ∀ (h : Fin 8), ∀ a, (![h.val, 0, 0] : Fin 3 → ℕ) a + S1x64x64.size a ≤ S8x64x64.size a := by decide +kernel

/-- The flag of trip `k` lies in the flag block. -/
theorem flag_inb : ∀ (k : Fin k0_t1_loop.trips), ∀ a, (![0, k.val, 0] : Fin 3 → ℕ) a + S1x1x1.size a ≤ S1x32x1.size a := by decide +kernel

/-- Row `(h, k)` of a scratch array. -/
def rowOf (x : Vec F S8x32x64 .f32) (k : Fin k0_t1_loop.trips) (h : Fin 8) : Vec F S1x1x64 .f32 :=
  VecWindow.window (s := S8x32x64) x ![h.val, k.val, 0] S1x1x64.size (row_inb k h)

/-- Slab `h` of a state array. -/
def slabOf (x : Vec F S8x64x64 .f32) (h : Fin 8) : Vec F S1x64x64 .f32 :=
  VecWindow.window (s := S8x64x64) x ![h.val, 0, 0] S1x64x64.size (slab_inb h)

/-- The flag of token `k`. -/
def flagOf (x : Vec F S1x32x1 .f32) (k : Fin k0_t1_loop.trips) : Vec F S1x1x1 .f32 :=
  VecWindow.window (s := S1x32x1) x ![0, k.val, 0] S1x1x1.size (flag_inb k)

variable (xs0 : Vec F S8x64x64 .f32) (xg : Vec F S1x32x1 .f32) (xr xk xv xw xkk xb : Vec F S8x32x64 .f32)

/-- Head `h`'s state after token `k` of the block, from the arrays and the states `S` before. -/
def tokS (k : Fin k0_t1_loop.trips) (S : Vec F S8x64x64 .f32) (h : Fin 8) : Vec F S1x64x64 .f32 :=
  headS (rowOf xk k h) (rowOf xv k h) (rowOf xw k h) (rowOf xkk k h) (rowOf xb k h) (flagOf xg k) (slabOf xs0 h) (slabOf S h)

/-- Head `h`'s output row for token `k` of the block. -/
def tokY (k : Fin k0_t1_loop.trips) (S : Vec F S8x64x64 .f32) (h : Fin 8) : Vec F S1x1x64 .f32 :=
  headY (rowOf xr k h) (rowOf xk k h) (rowOf xv k h) (rowOf xw k h) (rowOf xkk k h) (rowOf xb k h) (flagOf xg k) (slabOf xs0 h) (slabOf S h)

/-- The states of the eight heads before token `k` of the block, starting from `S`. -/
def stN (S : Vec F S8x64x64 .f32) : ℕ → Vec F S8x64x64 .f32
  | 0 => S
  | k + 1 => if h : k < k0_t1_loop.trips then
      fun y => tokS xs0 xg xk xv xw xkk xb ⟨k, h⟩ (stN S k) (y 0) (ix3 0 (y 1) (y 2))
    else stN S k

/-- One step of `stN` at a token of the block. -/
theorem stN_succ (S : Vec F S8x64x64 .f32) (k : Fin k0_t1_loop.trips) :
    stN xs0 xg xk xv xw xkk xb S (k.val + 1)
      = fun y => tokS xs0 xg xk xv xw xkk xb k (stN xs0 xg xk xv xw xkk xb S k.val) (y 0) (ix3 0 (y 1) (y 2)) := by
  rw [stN]; exact dif_pos k.isLt

end Cert.KernelIdeal.Run

end
-- ==== Proof.Trip.lean ====
/- What the token loop leaves: the state array after any number of trips is the recursion `stN`, and the rows of the
   output scratch written so far are the tokens' outputs. -/
module

public import proofs.«01_k».proof.Proof.Head
public import Idealize.ShloMosaic.Lib.WritesUnit
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The pieces one trip writes into the state array are the eight heads' new states. -/
theorem trip_pieces_state  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t1_loop.trips)
    (f : BufTy.Contents (Elt F) arg15.view.ty) (g : BufTy.Contents (Elt F) arg22.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 k).1 f g
      = View.tilePieces (s := S8x64x64) S1x64x64.size (fun h : Fin 8 => ![h.val, 0, 0]) slab_inb (fun h =>
          headS (arg17.view.readAt (Elt F) (Rect.unit (s := S8x32x64) (toff k h) S1x1x64.size (toff_inb k h)).toLoadRect X_arg17)
            (arg18.view.readAt (Elt F) (Rect.unit (s := S8x32x64) (toff k h) S1x1x64.size (toff_inb k h)).toLoadRect X_arg18)
            (arg19.view.readAt (Elt F) (Rect.unit (s := S8x32x64) (toff k h) S1x1x64.size (toff_inb k h)).toLoadRect X_arg19)
            (arg20.view.readAt (Elt F) (Rect.unit (s := S8x32x64) (toff k h) S1x1x64.size (toff_inb k h)).toLoadRect X_arg20)
            (arg21.view.readAt (Elt F) (Rect.unit (s := S8x32x64) (toff k h) S1x1x64.size (toff_inb k h)).toLoadRect X_arg21)
            (arg12.view.readAt (Elt F) (Rect.unit (s := S1x32x1) (k0_off2 k) S1x1x1.size (k0_off2_inb k)).toLoadRect X_arg12)
            (arg11.view.readAt (Elt F) (Rect.unit (s := S8x64x64) ![h.val, 0, 0] S1x64x64.size (slab_inb h)).toLoadRect X_arg11)
            (arg15.view.readAt (Elt F) (Rect.unit (s := S8x64x64) ![h.val, 0, 0] S1x64x64.size (slab_inb h)).toLoadRect f)) 8 (le_refl 8) := by
  unfold trip_k0_t1
  rfl

/-- The pieces one trip writes into the output scratch are the eight heads' output rows. -/
theorem trip_pieces_out  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t1_loop.trips)
    (f : BufTy.Contents (Elt F) arg15.view.ty) (g : BufTy.Contents (Elt F) arg22.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 k).2.1 f g
      = View.tilePieces (s := S8x32x64) S1x1x64.size (toff k) (toff_inb k) (fun h =>
          headY (arg16.view.readAt (Elt F) (Rect.unit (s := S8x32x64) (toff k h) S1x1x64.size (toff_inb k h)).toLoadRect X_arg16)
            (arg17.view.readAt (Elt F) (Rect.unit (s := S8x32x64) (toff k h) S1x1x64.size (toff_inb k h)).toLoadRect X_arg17)
            (arg18.view.readAt (Elt F) (Rect.unit (s := S8x32x64) (toff k h) S1x1x64.size (toff_inb k h)).toLoadRect X_arg18)
            (arg19.view.readAt (Elt F) (Rect.unit (s := S8x32x64) (toff k h) S1x1x64.size (toff_inb k h)).toLoadRect X_arg19)
            (arg20.view.readAt (Elt F) (Rect.unit (s := S8x32x64) (toff k h) S1x1x64.size (toff_inb k h)).toLoadRect X_arg20)
            (arg21.view.readAt (Elt F) (Rect.unit (s := S8x32x64) (toff k h) S1x1x64.size (toff_inb k h)).toLoadRect X_arg21)
            (arg12.view.readAt (Elt F) (Rect.unit (s := S1x32x1) (k0_off2 k) S1x1x1.size (k0_off2_inb k)).toLoadRect X_arg12)
            (arg11.view.readAt (Elt F) (Rect.unit (s := S8x64x64) ![h.val, 0, 0] S1x64x64.size (slab_inb h)).toLoadRect X_arg11)
            (arg15.view.readAt (Elt F) (Rect.unit (s := S8x64x64) ![h.val, 0, 0] S1x64x64.size (slab_inb h)).toLoadRect f)) 8 (le_refl 8) := by
  unfold trip_k0_t1
  rfl

/-- A load of head `h`'s row of trip `k` reads that row. -/
theorem readAt_row (v : View sig .tc .vmem S8x32x64 .f32) (f : v.ty.Contents (Elt F)) (k : Fin k0_t1_loop.trips) (h : Fin 8) :
    v.readAt (Elt F) (Rect.unit (s := S8x32x64) (toff k h) S1x1x64.size (toff_inb k h)).toLoadRect f = rowOf (v.read (Elt F) f) k h :=
  View.readAt_unit v f (toff_inb k h) (toff_eq k h) (row_inb k h)

/-- A load of the flag of trip `k` reads that flag. -/
theorem readAt_flag (v : View sig .tc .vmem S1x32x1 .f32) (f : v.ty.Contents (Elt F)) (k : Fin k0_t1_loop.trips) :
    v.readAt (Elt F) (Rect.unit (s := S1x32x1) (k0_off2 k) S1x1x1.size (k0_off2_inb k)).toLoadRect f = flagOf (v.read (Elt F) f) k :=
  View.readAt_unit v f (k0_off2_inb k) (k0_off2_eq k) (flag_inb k)

/-- A load of slab `h` reads that slab. -/
theorem readAt_slab (v : View sig .tc .vmem S8x64x64 .f32) (f : v.ty.Contents (Elt F)) (h : Fin 8) :
    v.readAt (Elt F) (Rect.unit (s := S8x64x64) ![h.val, 0, 0] S1x64x64.size (slab_inb h)).toLoadRect f = slabOf (v.read (Elt F) f) h :=
  View.readAt_unit v f (slab_inb h) rfl (slab_inb h)

/-- After a trip the state array holds the eight heads' new states. -/
theorem trip_state  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t1_loop.trips)
    (f : BufTy.Contents (Elt F) arg15.view.ty) (g : BufTy.Contents (Elt F) arg22.view.ty) :
    arg15.view.read (Elt F) (arg15.view.writes (Elt F) f ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 k).1 f g))
      = fun y => tokS (arg11.view.read (Elt F) X_arg11) (arg12.view.read (Elt F) X_arg12) (arg17.view.read (Elt F) X_arg17) (arg18.view.read (Elt F) X_arg18) (arg19.view.read (Elt F) X_arg19) (arg20.view.read (Elt F) X_arg20) (arg21.view.read (Elt F) X_arg21) k (arg15.view.read (Elt F) f) (y 0) (ix3 0 (y 1) (y 2)) := by
  rw [trip_pieces_state]
  funext y
  idx_vars y
  refine (View.read_tilePieces arg15.view f S1x64x64.size (fun h : Fin 8 => ![h.val, 0, 0]) slab_inb _ 8 (le_refl 8) _ y0 y0.isLt
    (ix3 0 y1 y2) ?_ (0 : Fin 3) ?_).trans ?_
  · intro a; fin_cases a
    · exact (Nat.add_zero _).symm
    · exact (Nat.zero_add _).symm
    · exact (Nat.zero_add _).symm
  · intro h hne
    have hv : h.val ≠ y0.val := fun e => hne (Fin.ext e)
    show y0.val < h.val ∨ h.val + 1 ≤ y0.val
    omega
  · show _ = tokS _ _ _ _ _ _ _ k _ y0 (ix3 0 y1 y2)
    unfold tokS
    simp only [← readAt_row, ← readAt_flag, ← readAt_slab]

/-- After a trip the output scratch holds the eight heads' output rows at the trip's token. -/
theorem trip_out  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t1_loop.trips)
    (f : BufTy.Contents (Elt F) arg15.view.ty) (g : BufTy.Contents (Elt F) arg22.view.ty) (h : Fin 8) (t : Fin 32) (j : Fin 64) (ht : t.val = k.val) :
    arg22.view.read (Elt F) (arg22.view.writes (Elt F) g ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 k).2.1 f g)) (ix3 h t j)
      = tokY (arg11.view.read (Elt F) X_arg11) (arg12.view.read (Elt F) X_arg12) (arg16.view.read (Elt F) X_arg16) (arg17.view.read (Elt F) X_arg17) (arg18.view.read (Elt F) X_arg18) (arg19.view.read (Elt F) X_arg19) (arg20.view.read (Elt F) X_arg20) (arg21.view.read (Elt F) X_arg21) k (arg15.view.read (Elt F) f) h (ix3 0 0 j) := by
  rw [trip_pieces_out]
  refine (View.read_tilePieces arg22.view g S1x1x64.size (toff k) (toff_inb k) _ 8 (le_refl 8) _ h h.isLt
    (ix3 0 0 j) ?_ (0 : Fin 3) ?_).trans ?_
  · intro a; rw [toff_eq]; fin_cases a
    · exact (Nat.add_zero _).symm
    · exact ht.trans (Nat.add_zero _).symm
    · exact (Nat.zero_add _).symm
  · intro h' hne
    rw [toff_eq]
    have hv : h'.val ≠ h.val := fun e => hne (Fin.ext e)
    show h.val < h'.val ∨ h'.val + 1 ≤ h.val
    omega
  · unfold tokY
    simp only [← readAt_row, ← readAt_flag, ← readAt_slab]

/-- A trip leaves the output scratch's rows of other tokens. -/
theorem trip_out_other  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t1_loop.trips)
    (f : BufTy.Contents (Elt F) arg15.view.ty) (g : BufTy.Contents (Elt F) arg22.view.ty) (h : Fin 8) (t : Fin 32) (j : Fin 64) (ht : t.val ≠ k.val) :
    arg22.view.read (Elt F) (arg22.view.writes (Elt F) g ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 k).2.1 f g)) (ix3 h t j)
      = arg22.view.read (Elt F) g (ix3 h t j) := by
  rw [trip_pieces_out]
  refine View.read_tilePieces_miss arg22.view g S1x1x64.size (toff k) (toff_inb k) _ 8 (le_refl 8) _ (1 : Fin 3) ?_
  intro h' _
  rw [toff_eq]
  show t.val < k.val ∨ k.val + 1 ≤ t.val
  omega

/-- THE LOOP. After the first `n` trips, from any contents: the state array holds the recursion's states, and the output
   scratch's rows of the tokens before `n` hold the tokens' outputs. -/
theorem loop_value  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (G_arg15 : BufTy.Contents (Elt F) arg15.view.ty) (G_arg22 : BufTy.Contents (Elt F) arg22.view.ty) :
    ∀ n : ℕ, n ≤ k0_t1_loop.trips →
      arg15.view.read (Elt F) (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 G_arg15 G_arg22 n).1)
          = stN (arg11.view.read (Elt F) X_arg11) (arg12.view.read (Elt F) X_arg12) (arg17.view.read (Elt F) X_arg17) (arg18.view.read (Elt F) X_arg18) (arg19.view.read (Elt F) X_arg19) (arg20.view.read (Elt F) X_arg20) (arg21.view.read (Elt F) X_arg21) (arg15.view.read (Elt F) G_arg15) n
      ∧ ∀ (k : Fin k0_t1_loop.trips), k.val < n → ∀ (h : Fin 8) (t : Fin 32) (j : Fin 64), t.val = k.val →
          arg22.view.read (Elt F) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 G_arg15 G_arg22 n).2) (ix3 h t j)
            = tokY (arg11.view.read (Elt F) X_arg11) (arg12.view.read (Elt F) X_arg12) (arg16.view.read (Elt F) X_arg16) (arg17.view.read (Elt F) X_arg17) (arg18.view.read (Elt F) X_arg18) (arg19.view.read (Elt F) X_arg19) (arg20.view.read (Elt F) X_arg20) (arg21.view.read (Elt F) X_arg21) k (stN (arg11.view.read (Elt F) X_arg11) (arg12.view.read (Elt F) X_arg12) (arg17.view.read (Elt F) X_arg17) (arg18.view.read (Elt F) X_arg18) (arg19.view.read (Elt F) X_arg19) (arg20.view.read (Elt F) X_arg20) (arg21.view.read (Elt F) X_arg21) (arg15.view.read (Elt F) G_arg15) k.val) h (ix3 0 0 j) := by
  intro n
  induction n with
  | zero => exact fun _ => ⟨rfl, fun k hk => absurd hk (Nat.not_lt_zero _)⟩
  | succ n ih =>
    intro hn
    obtain ⟨ih1, ih2⟩ := ih (Nat.le_of_succ_le hn)
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 G_arg15 G_arg22 ⟨n, hn⟩
    simp only at e
    rw [e]
    constructor
    · rw [View.writes_append, trip_state, ih1]
      exact (stN_succ (arg11.view.read (Elt F) X_arg11) (arg12.view.read (Elt F) X_arg12) (arg17.view.read (Elt F) X_arg17) (arg18.view.read (Elt F) X_arg18) (arg19.view.read (Elt F) X_arg19) (arg20.view.read (Elt F) X_arg20) (arg21.view.read (Elt F) X_arg21) (arg15.view.read (Elt F) G_arg15) ⟨n, hn⟩).symm
    · intro k hk h t j ht
      rw [View.writes_append]
      rcases Nat.lt_or_ge k.val n with hlt | hge
      · rw [trip_out_other (ht := by show t.val ≠ n; omega)]
        exact ih2 k hlt h t j ht
      · obtain rfl : k = ⟨n, hn⟩ := Fin.ext (by show k.val = n; omega)
        rw [trip_out (ht := ht), ih1]

end Cert.KernelIdeal.Run

end
-- ==== Proof.Prep.lean ====
/- What the body's prologue leaves in its six scratch arrays: each is, head by head, the dequantized or combined slab of the
   block's inputs. -/
module

public import proofs.«01_k».proof.Proof.Trip

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- A slab of a block of rows lies inside it. -/
theorem rows_inb (h : Fin 8) : ∀ a, (![h.val, 0, 0] : Fin 3 → ℕ) a + S1x32x64.size a ≤ S8x32x64.size a := by
  revert h; decide +kernel

/-- A slab of a block of scales lies inside it. -/
theorem scales_inb (h : Fin 8) : ∀ a, (![h.val, 0, 0] : Fin 3 → ℕ) a + S1x32x1.size a ≤ S8x32x1.size a := by
  revert h; decide +kernel

/-- Slab `h` of a block of rows. -/
def rowsOf {e : EltTy} (x : Vec F S8x32x64 e) (h : Fin 8) : Vec F S1x32x64 e :=
  VecWindow.window (s := S8x32x64) x ![h.val, 0, 0] S1x32x64.size (rows_inb h)

/-- Slab `h` of a block of scales. -/
def scalesOf (x : Vec F S8x32x1 .f32) (h : Fin 8) : Vec F S1x32x1 .f32 :=
  VecWindow.window (s := S8x32x1) x ![h.val, 0, 0] S1x32x1.size (scales_inb h)

/-- The array whose slab `h` is `P h`. -/
def slabs (P : Fin 8 → Vec F S1x32x64 .f32) : Vec F S8x32x64 .f32 := fun y => P (y 0) (ix3 0 (y 1) (y 2))

/-- Dequantized rows: code times scale. -/
def prepQ (x : Vec F S8x32x64 .fp8e4m3) (s : Vec F S8x32x1 .f32) : Vec F S8x32x64 .f32 :=
  slabs fun h => k0_pay81 (rowsOf x h) (scalesOf s h)

/-- The decay: exponential of minus the exponential. -/
def prepW (x : Vec F S8x32x64 .bf16) : Vec F S8x32x64 .f32 := slabs fun h => k0_pay86 (rowsOf x h)

/-- The removal key, widened. -/
def prepK (x : Vec F S8x32x64 .bf16) : Vec F S8x32x64 .f32 := slabs fun h => k0_pay87 (rowsOf x h)

/-- The replacement key: removal key times rate. -/
def prepB (x z : Vec F S8x32x64 .bf16) : Vec F S8x32x64 .f32 := slabs fun h => k0_pay88 (rowsOf x h) (rowsOf z h)

/-- After the eight slabs of an array have been stored, reading it gives the array of the slabs. -/
theorem read_slabs (v : View sig .tc .vmem S8x32x64 .f32) (f : v.ty.Contents (Elt F)) (P : Fin 8 → Vec F S1x32x64 .f32) :
    v.read (Elt F) (v.writes (Elt F) f (View.tilePieces (s := S8x32x64) S1x32x64.size (fun h : Fin 8 => ![h.val, 0, 0]) rows_inb P 8 (le_refl 8)))
      = slabs P := by
  funext y
  idx_vars y
  refine (View.read_tilePieces v f S1x32x64.size (fun h : Fin 8 => ![h.val, 0, 0]) rows_inb _ 8 (le_refl 8) _ y0 y0.isLt
    (ix3 0 y1 y2) ?_ (0 : Fin 3) ?_).trans ?_
  · intro a; fin_cases a
    · exact (Nat.add_zero _).symm
    · exact (Nat.zero_add _).symm
    · exact (Nat.zero_add _).symm
  · intro h hne
    have hv : h.val ≠ y0.val := fun e => hne (Fin.ext e)
    show y0.val < h.val ∨ h.val + 1 ≤ y0.val
    omega
  · rfl

/-- A load of slab `h` of a block of rows reads that slab. -/
theorem readAt_rows {e : EltTy} (v : View sig .tc .vmem S8x32x64 e) (f : v.ty.Contents (Elt F)) (h : Fin 8) :
    v.readAt (Elt F) (Rect.unit (s := S8x32x64) ![h.val, 0, 0] S1x32x64.size (rows_inb h)).toLoadRect f = rowsOf (v.read (Elt F) f) h :=
  View.readAt_unit v f (rows_inb h) rfl (rows_inb h)

/-- A load of slab `h` of a block of scales reads that slab. -/
theorem readAt_scales (v : View sig .tc .vmem S8x32x1 .f32) (f : v.ty.Contents (Elt F)) (h : Fin 8) :
    v.readAt (Elt F) (Rect.unit (s := S8x32x1) ![h.val, 0, 0] S1x32x1.size (scales_inb h)).toLoadRect f = scalesOf (v.read (Elt F) f) h :=
  View.readAt_unit v f (scales_inb h) rfl (scales_inb h)

variable (x0 x1 x2 : Vec F S8x32x64 .fp8e4m3) (x3 x4 x5 : Vec F S8x32x1 .f32) (x6 x7 x8 : Vec F S8x32x64 .bf16)
  (x9 : Vec F S8x64x64 .f32) (x10 : Vec F S1x32x1 .f32) (S : Vec F S8x64x64 .f32)

/-- The eight heads' states before token `n` of the block, from the block's inputs and the state `S` at its start. -/
def stBlk (n : ℕ) : Vec F S8x64x64 .f32 := stN x9 x10 (prepQ x1 x4) (prepQ x2 x5) (prepW x6) (prepK x7) (prepB x7 x8) S n

/-- The state after the block. -/
def sBlk : Vec F S8x64x64 .f32 := stBlk x1 x2 x4 x5 x6 x7 x8 x9 x10 S k0_t1_loop.trips

/-- The block has 32 tokens. -/
theorem trips_eq : k0_t1_loop.trips = 32 := by decide +kernel

/-- The block's outputs before rounding. -/
def yRaw : Vec F S8x32x64 .f32 := fun y =>
  tokY x9 x10 (prepQ x0 x3) (prepQ x1 x4) (prepQ x2 x5) (prepW x6) (prepK x7) (prepB x7 x8) ((y 1).cast trips_eq.symm)
    (stBlk x1 x2 x4 x5 x6 x7 x8 x9 x10 S (y 1).val) (y 0) (ix3 0 0 (y 2))

/-- The block's outputs. -/
def yBlk : Vec F S8x32x64 .bf16 := k0_pay2 (yRaw x0 x1 x2 x3 x4 x5 x6 x7 x8 x9 x10 S)

/-- The eight stores of dequantized slabs leave the dequantized array. -/
theorem read_prepQ (v : View sig .tc .vmem S8x32x64 .f32) (f : v.ty.Contents (Elt F))
    (u : View sig .tc .vmem S8x32x64 .fp8e4m3) (g : u.ty.Contents (Elt F)) (u' : View sig .tc .vmem S8x32x1 .f32) (g' : u'.ty.Contents (Elt F)) :
    v.read (Elt F) (v.writes (Elt F) f (View.tilePieces (s := S8x32x64) S1x32x64.size (fun h : Fin 8 => ![h.val, 0, 0]) rows_inb
        (fun h => k0_pay81 (u.readAt (Elt F) (Rect.unit (s := S8x32x64) ![h.val, 0, 0] S1x32x64.size (rows_inb h)).toLoadRect g)
          (u'.readAt (Elt F) (Rect.unit (s := S8x32x1) ![h.val, 0, 0] S1x32x1.size (scales_inb h)).toLoadRect g')) 8 (le_refl 8)))
      = prepQ (u.read (Elt F) g) (u'.read (Elt F) g') :=
  (read_slabs v f _).trans (congrArg slabs (funext fun h => congrArg₂ k0_pay81 (readAt_rows u g h) (readAt_scales u' g' h)))

/-- The eight stores of decay slabs leave the decay array. -/
theorem read_prepW (v : View sig .tc .vmem S8x32x64 .f32) (f : v.ty.Contents (Elt F))
    (u : View sig .tc .vmem S8x32x64 .bf16) (g : u.ty.Contents (Elt F)) :
    v.read (Elt F) (v.writes (Elt F) f (View.tilePieces (s := S8x32x64) S1x32x64.size (fun h : Fin 8 => ![h.val, 0, 0]) rows_inb
        (fun h => k0_pay86 (u.readAt (Elt F) (Rect.unit (s := S8x32x64) ![h.val, 0, 0] S1x32x64.size (rows_inb h)).toLoadRect g)) 8 (le_refl 8)))
      = prepW (u.read (Elt F) g) :=
  (read_slabs v f _).trans (congrArg slabs (funext fun h => congrArg k0_pay86 (readAt_rows u g h)))

/-- The eight stores of removal-key slabs leave the widened removal keys. -/
theorem read_prepK (v : View sig .tc .vmem S8x32x64 .f32) (f : v.ty.Contents (Elt F))
    (u : View sig .tc .vmem S8x32x64 .bf16) (g : u.ty.Contents (Elt F)) :
    v.read (Elt F) (v.writes (Elt F) f (View.tilePieces (s := S8x32x64) S1x32x64.size (fun h : Fin 8 => ![h.val, 0, 0]) rows_inb
        (fun h => k0_pay87 (u.readAt (Elt F) (Rect.unit (s := S8x32x64) ![h.val, 0, 0] S1x32x64.size (rows_inb h)).toLoadRect g)) 8 (le_refl 8)))
      = prepK (u.read (Elt F) g) :=
  (read_slabs v f _).trans (congrArg slabs (funext fun h => congrArg k0_pay87 (readAt_rows u g h)))

/-- The eight stores of replacement-key slabs leave the replacement keys. -/
theorem read_prepB (v : View sig .tc .vmem S8x32x64 .f32) (f : v.ty.Contents (Elt F))
    (u : View sig .tc .vmem S8x32x64 .bf16) (g : u.ty.Contents (Elt F)) (u' : View sig .tc .vmem S8x32x64 .bf16) (g' : u'.ty.Contents (Elt F)) :
    v.read (Elt F) (v.writes (Elt F) f (View.tilePieces (s := S8x32x64) S1x32x64.size (fun h : Fin 8 => ![h.val, 0, 0]) rows_inb
        (fun h => k0_pay88 (u.readAt (Elt F) (Rect.unit (s := S8x32x64) ![h.val, 0, 0] S1x32x64.size (rows_inb h)).toLoadRect g)
          (u'.readAt (Elt F) (Rect.unit (s := S8x32x64) ![h.val, 0, 0] S1x32x64.size (rows_inb h)).toLoadRect g')) 8 (le_refl 8)))
      = prepB (u.read (Elt F) g) (u'.read (Elt F) g') :=
  (read_slabs v f _).trans (congrArg slabs (funext fun h => congrArg₂ k0_pay88 (readAt_rows u g h) (readAt_rows u' g' h)))

/-- A store of the whole given state leaves it. -/
theorem read_init (v : View sig .tc .vmem S8x64x64 .f32) (f : v.ty.Contents (Elt F))
    (u : View sig .tc .vmem S8x64x64 .f32) (g : u.ty.Contents (Elt F)) :
    v.read (Elt F) (v.writes (Elt F) f [⟨Rect.unit (s := S8x64x64) ![0, 0, 0] S8x64x64.size inb_S8x64x64_S8x64x64_0_0_0,
        k0_pay80 (u.readAt (Elt F) (Rect.unit (s := S8x64x64) ![0, 0, 0] S8x64x64.size inb_S8x64x64_S8x64x64_0_0_0).toLoadRect g)⟩])
      = u.read (Elt F) g := by
  rw [View.read_writes_full v f inb_S8x64x64_S8x64x64_0_0_0, View.readAt_full u g inb_S8x64x64_S8x64x64_0_0_0]
  unfold k0_pay80
  exact (shapeCast_id _ _).trans (shapeCast_id _ _)

/-- THE BLOCK. When the prologue's arrays hold the block's prepared inputs, the loop leaves the block's new state in the
    state array and the block's outputs in the output scratch. -/
theorem loop_out  (𝒱 : Variants) (c : Dev nD) (bd : Option 𝒱.V) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (c0_i32_384 : BitVec 32) (c1_i32 : BitVec 32) (X_arg11 : BufTy.Contents (Elt F) arg11.view.ty) (X_arg12 : BufTy.Contents (Elt F) arg12.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty)
    (G_arg15 : BufTy.Contents (Elt F) arg15.view.ty) (G_arg22 : BufTy.Contents (Elt F) arg22.view.ty)
    (h9 : arg11.view.read (Elt F) X_arg11 = x9) (h10 : arg12.view.read (Elt F) X_arg12 = x10) (hS : arg15.view.read (Elt F) G_arg15 = S)
    (hr : arg16.view.read (Elt F) X_arg16 = prepQ x0 x3) (hk : arg17.view.read (Elt F) X_arg17 = prepQ x1 x4)
    (hv : arg18.view.read (Elt F) X_arg18 = prepQ x2 x5) (hw : arg19.view.read (Elt F) X_arg19 = prepW x6)
    (hkk : arg20.view.read (Elt F) X_arg20 = prepK x7) (hb : arg21.view.read (Elt F) X_arg21 = prepB x7 x8) :
    arg15.view.read (Elt F) (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 G_arg15 G_arg22 k0_t1_loop.trips).1)
        = sBlk x1 x2 x4 x5 x6 x7 x8 x9 x10 S
    ∧ arg22.view.read (Elt F) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 G_arg15 G_arg22 k0_t1_loop.trips).2)
        = yRaw x0 x1 x2 x3 x4 x5 x6 x7 x8 x9 x10 S := by
  have H := loop_value 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_384 c1_i32 X_arg11 X_arg12 X_arg16 X_arg17 X_arg18 X_arg19 X_arg20 X_arg21 G_arg15 G_arg22 k0_t1_loop.trips le_rfl
  rw [h9, h10, hS, hr, hk, hv, hw, hkk, hb] at H
  refine ⟨H.1, ?_⟩
  funext y
  idx_vars y
  exact H.2 (y1.cast trips_eq.symm) (y1.cast trips_eq.symm).isLt y0 y1 y2 rfl

end Cert.KernelIdeal.Run

end
-- ==== Proof.Kit.lean ====
/- What the three cases of the body share: the two conditions in closed form, the windows that are never idle, the staging
   buffers of a point, the scratch arrays. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's first conditional: the first block of a row of the grid. -/
abbrev cond0_0 (i : grid0.Coords) : Prop := (Scalar.cmpi .ne (Scalar.extui (Scalar.cmpi .eq (BitVec.ofNat 32 (i 1).val) 0#32)) 0#32) = 1#1
/-- It holds at the points ≡ 0 (mod 24) — by arithmetic of the point. -/
theorem hcond0_0 : ∀ t : Fin cfg0.N, cond0_0 (grid0.coords t) ↔ t.val % 24 = 0 :=
  (fun t => by
    have ht : t.val < 96 := Nat.lt_of_lt_of_eq t.isLt N_0
    have e0 : (grid0.coords t 0).val = t.val / 24 % 4 := Pipeline.Grid.coords_val t 0 (by decide) rfl
    have e1 : (grid0.coords t 1).val = t.val / 1 % 24 := Pipeline.Grid.coords_val t 1 (by decide) rfl
    simp only [cond0_0, e0, e1]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points ≡ 23 (mod 24) — by arithmetic of the point. -/
theorem hcond0_1 : ∀ t : Fin cfg0.N, cond0_1 (grid0.coords t) ↔ t.val % 24 = 23 :=
  (fun t => by
    have ht : t.val < 96 := Nat.lt_of_lt_of_eq t.isLt N_0
    have e0 : (grid0.coords t 0).val = t.val / 24 % 4 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x32x64 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32x64 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32x64 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x32x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x32x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x32x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x32x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x32x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x64x64 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S8x64x64 .f32 := Memref.whole cc0_scratch0
abbrev scM0_1 : Memref sig .tc .vmem S8x32x64 .f32 := Memref.whole cc0_scratch1
abbrev scM0_2 : Memref sig .tc .vmem S8x32x64 .f32 := Memref.whole cc0_scratch2
abbrev scM0_3 : Memref sig .tc .vmem S8x32x64 .f32 := Memref.whole cc0_scratch3
abbrev scM0_4 : Memref sig .tc .vmem S8x32x64 .f32 := Memref.whole cc0_scratch4
abbrev scM0_5 : Memref sig .tc .vmem S8x32x64 .f32 := Memref.whole cc0_scratch5
abbrev scM0_6 : Memref sig .tc .vmem S8x32x64 .f32 := Memref.whole cc0_scratch6
abbrev scM0_7 : Memref sig .tc .vmem S8x32x64 .f32 := Memref.whole cc0_scratch7
/-- The scratch `arg15` the kernel carries between points, as a view: what it holds is stated through it. -/
abbrev VS0_0 : View sig .tc .vmem S8x64x64 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Run

end
-- ==== Proof.BodyA.lean ====
/- The body at a segment's first block (the state starts from the given one): from its blocks and the carried state to the block of outputs and the new state. -/
module

public import proofs.«01_k».proof.Proof.Prep
public import proofs.«01_k».proof.Proof.Kit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- THE BODY at a segment's first block (the state starts from the given one): the output block holds the tokens' outputs, the carried state is the state after them. -/
theorem body_A (c : Dev nD) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (hc0 : cond0_0 i) (hc1 : ¬cond0_1 i)
    (x0 : Vec F S8x32x64 .fp8e4m3) (x1 : Vec F S8x32x64 .fp8e4m3) (x2 : Vec F S8x32x64 .fp8e4m3) (x3 : Vec F S8x32x1 .f32) (x4 : Vec F S8x32x1 .f32) (x5 : Vec F S8x32x1 .f32) (x6 : Vec F S8x32x64 .bf16) (x7 : Vec F S8x32x64 .bf16) (x8 : Vec F S8x32x64 .bf16) (x9 : Vec F S8x64x64 .f32) (x10 : Vec F S1x32x1 .f32) (x12 : Vec F S8x64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (yBlk x0 x1 x2 x3 x4 x5 x6 x7 x8 x9 x10 x9) ∗ owns (c : Thread nD τ) arg14 fullShare x12 ∗ owns (c : Thread nD τ) arg15 fullShare (sBlk x1 x2 x4 x5 x6 x7 x8 x9 x10 x9) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_rwkv7_tokens i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rwkv7_tokens_eq_skeleton]; unfold cc0_rwkv7_tokens_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
  sl_exec (disch := first | sl_exact hc0 | sl_exact hc1)
  sl_step
  have HL := loop_out x0 x1 x2 x3 x4 x5 x6 x7 x8 x9 x10 x9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 1#32 _ _ _ _ _ _ _ _ _ fs7
    (harg11.read_unread x9) (harg12.read_unread x10)
    ((read_init arg15.view arg15.view.junk arg11.view (harg11.unread x9)).trans (harg11.read_unread x9))
    ((read_prepQ arg16.view arg16.view.junk arg2.view (harg2.unread x0) arg5.view (harg5.unread x3)).trans (by rw [harg2.read_unread, harg5.read_unread]))
    ((read_prepQ arg17.view arg17.view.junk arg3.view (harg3.unread x1) arg6.view (harg6.unread x4)).trans (by rw [harg3.read_unread, harg6.read_unread]))
    ((read_prepQ arg18.view arg18.view.junk arg4.view (harg4.unread x2) arg7.view (harg7.unread x5)).trans (by rw [harg4.read_unread, harg7.read_unread]))
    ((read_prepW arg19.view arg19.view.junk arg8.view (harg8.unread x6)).trans (by rw [harg8.read_unread]))
    ((read_prepK arg20.view arg20.view.junk arg9.view (harg9.unread x7)).trans (by rw [harg9.read_unread]))
    ((read_prepB arg21.view arg21.view.junk arg9.view (harg9.unread x7) arg10.view (harg10.unread x8)).trans (by rw [harg9.read_unread, harg10.read_unread]))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; exact (View.read_writes_full arg13.view f11 inb_S8x32x64_S8x32x64_0_0_0 _ []).trans (congrArg k0_pay2 ((View.readAt_full arg22.view _ inb_S8x32x64_S8x32x64_0_0_0).trans HL.2))
  isplitl [H12]
  · iexists _; isplitr; · ipureintro; exact harg14.read_unread _
    iexact H12
  isplitl [HS0]
  · iexists _; isplitr; swap; · iexact HS0
    ipureintro; exact (congrArg (arg15.view.read (Elt F)) (View.writes_append _ _ _ _)).trans HL.1
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.KernelIdeal.Run

end
-- ==== Proof.BodyB.lean ====
/- The body at a middle block: from its blocks and the carried state to the block of outputs and the new state. -/
module

public import proofs.«01_k».proof.Proof.Prep
public import proofs.«01_k».proof.Proof.Kit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- THE BODY at a middle block: the output block holds the tokens' outputs, the carried state is the state after them. -/
theorem body_B (c : Dev nD) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (hc0 : ¬cond0_0 i) (hc1 : ¬cond0_1 i)
    (x0 : Vec F S8x32x64 .fp8e4m3) (x1 : Vec F S8x32x64 .fp8e4m3) (x2 : Vec F S8x32x64 .fp8e4m3) (x3 : Vec F S8x32x1 .f32) (x4 : Vec F S8x32x1 .f32) (x5 : Vec F S8x32x1 .f32) (x6 : Vec F S8x32x64 .bf16) (x7 : Vec F S8x32x64 .bf16) (x8 : Vec F S8x32x64 .bf16) (x9 : Vec F S8x64x64 .f32) (x10 : Vec F S1x32x1 .f32) (x12 : Vec F S8x64x64 .f32) (xs0 : Vec F S8x64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (yBlk x0 x1 x2 x3 x4 x5 x6 x7 x8 x9 x10 xs0) ∗ owns (c : Thread nD τ) arg14 fullShare x12 ∗ owns (c : Thread nD τ) arg15 fullShare (sBlk x1 x2 x4 x5 x6 x7 x8 x9 x10 xs0) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_rwkv7_tokens i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rwkv7_tokens_eq_skeleton]; unfold cc0_rwkv7_tokens_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg15.eq_unread hfs0
  sl_exec (disch := first | sl_exact hc0 | sl_exact hc1)
  sl_step
  have HL := loop_out x0 x1 x2 x3 x4 x5 x6 x7 x8 x9 x10 xs0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 1#32 _ _ _ _ _ _ _ _ _ fs7
    (harg11.read_unread x9) (harg12.read_unread x10)
    (harg15.read_unread xs0)
    ((read_prepQ arg16.view arg16.view.junk arg2.view (harg2.unread x0) arg5.view (harg5.unread x3)).trans (by rw [harg2.read_unread, harg5.read_unread]))
    ((read_prepQ arg17.view arg17.view.junk arg3.view (harg3.unread x1) arg6.view (harg6.unread x4)).trans (by rw [harg3.read_unread, harg6.read_unread]))
    ((read_prepQ arg18.view arg18.view.junk arg4.view (harg4.unread x2) arg7.view (harg7.unread x5)).trans (by rw [harg4.read_unread, harg7.read_unread]))
    ((read_prepW arg19.view arg19.view.junk arg8.view (harg8.unread x6)).trans (by rw [harg8.read_unread]))
    ((read_prepK arg20.view arg20.view.junk arg9.view (harg9.unread x7)).trans (by rw [harg9.read_unread]))
    ((read_prepB arg21.view arg21.view.junk arg9.view (harg9.unread x7) arg10.view (harg10.unread x8)).trans (by rw [harg9.read_unread, harg10.read_unread]))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; exact (View.read_writes_full arg13.view f11 inb_S8x32x64_S8x32x64_0_0_0 _ []).trans (congrArg k0_pay2 ((View.readAt_full arg22.view _ inb_S8x32x64_S8x32x64_0_0_0).trans HL.2))
  isplitl [H12]
  · iexists _; isplitr; · ipureintro; exact harg14.read_unread _
    iexact H12
  isplitl [HS0]
  · iexists _; isplitr; swap; · iexact HS0
    ipureintro; exact HL.1
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.KernelIdeal.Run

end
-- ==== Proof.BodyC.lean ====
/- The body at the last block (the final state is stored): from its blocks and the carried state to the block of outputs and the new state. -/
module

public import proofs.«01_k».proof.Proof.Prep
public import proofs.«01_k».proof.Proof.Kit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- THE BODY at the last block (the final state is stored): the output block holds the tokens' outputs, the carried state is the state after them. -/
theorem body_C (c : Dev nD) (i : grid0.Coords) (arg2 : Memref sig .tc .vmem S8x32x64 .fp8e4m3) (harg2 : arg2.IsWhole) (arg3 : Memref sig .tc .vmem S8x32x64 .fp8e4m3) (harg3 : arg3.IsWhole) (arg4 : Memref sig .tc .vmem S8x32x64 .fp8e4m3) (harg4 : arg4.IsWhole) (arg5 : Memref sig .tc .vmem S8x32x1 .f32) (harg5 : arg5.IsWhole) (arg6 : Memref sig .tc .vmem S8x32x1 .f32) (harg6 : arg6.IsWhole) (arg7 : Memref sig .tc .vmem S8x32x1 .f32) (harg7 : arg7.IsWhole) (arg8 : Memref sig .tc .vmem S8x32x64 .bf16) (harg8 : arg8.IsWhole) (arg9 : Memref sig .tc .vmem S8x32x64 .bf16) (harg9 : arg9.IsWhole) (arg10 : Memref sig .tc .vmem S8x32x64 .bf16) (harg10 : arg10.IsWhole) (arg11 : Memref sig .tc .vmem S8x64x64 .f32) (harg11 : arg11.IsWhole) (arg12 : Memref sig .tc .vmem S1x32x1 .f32) (harg12 : arg12.IsWhole) (arg13 : Memref sig .tc .vmem S8x32x64 .bf16) (harg13 : arg13.IsWhole) (arg14 : Memref sig .tc .vmem S8x64x64 .f32) (harg14 : arg14.IsWhole) (arg15 : Memref sig .tc .vmem S8x64x64 .f32) (harg15 : arg15.IsWhole) (arg16 : Memref sig .tc .vmem S8x32x64 .f32) (harg16 : arg16.IsWhole) (arg17 : Memref sig .tc .vmem S8x32x64 .f32) (harg17 : arg17.IsWhole) (arg18 : Memref sig .tc .vmem S8x32x64 .f32) (harg18 : arg18.IsWhole) (arg19 : Memref sig .tc .vmem S8x32x64 .f32) (harg19 : arg19.IsWhole) (arg20 : Memref sig .tc .vmem S8x32x64 .f32) (harg20 : arg20.IsWhole) (arg21 : Memref sig .tc .vmem S8x32x64 .f32) (harg21 : arg21.IsWhole) (arg22 : Memref sig .tc .vmem S8x32x64 .f32) (harg22 : arg22.IsWhole) (hc0 : ¬cond0_0 i) (hc1 : cond0_1 i)
    (x0 : Vec F S8x32x64 .fp8e4m3) (x1 : Vec F S8x32x64 .fp8e4m3) (x2 : Vec F S8x32x64 .fp8e4m3) (x3 : Vec F S8x32x1 .f32) (x4 : Vec F S8x32x1 .f32) (x5 : Vec F S8x32x1 .f32) (x6 : Vec F S8x32x64 .bf16) (x7 : Vec F S8x32x64 .bf16) (x8 : Vec F S8x32x64 .bf16) (x9 : Vec F S8x64x64 .f32) (x10 : Vec F S1x32x1 .f32) (xs0 : Vec F S8x64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (yBlk x0 x1 x2 x3 x4 x5 x6 x7 x8 x9 x10 xs0) ∗ owns (c : Thread nD τ) arg14 fullShare (sBlk x1 x2 x4 x5 x6 x7 x8 x9 x10 xs0) ∗ owns (c : Thread nD τ) arg15 fullShare (sBlk x1 x2 x4 x5 x6 x7 x8 x9 x10 xs0) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_rwkv7_tokens i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rwkv7_tokens_eq_skeleton]; unfold cc0_rwkv7_tokens_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfs0
  sl_exec (disch := first | sl_exact hc0 | sl_exact hc1)
  sl_step
  have HL := loop_out x0 x1 x2 x3 x4 x5 x6 x7 x8 x9 x10 xs0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 1#32 _ _ _ _ _ _ _ _ _ fs7
    (harg11.read_unread x9) (harg12.read_unread x10)
    (harg15.read_unread xs0)
    ((read_prepQ arg16.view arg16.view.junk arg2.view (harg2.unread x0) arg5.view (harg5.unread x3)).trans (by rw [harg2.read_unread, harg5.read_unread]))
    ((read_prepQ arg17.view arg17.view.junk arg3.view (harg3.unread x1) arg6.view (harg6.unread x4)).trans (by rw [harg3.read_unread, harg6.read_unread]))
    ((read_prepQ arg18.view arg18.view.junk arg4.view (harg4.unread x2) arg7.view (harg7.unread x5)).trans (by rw [harg4.read_unread, harg7.read_unread]))
    ((read_prepW arg19.view arg19.view.junk arg8.view (harg8.unread x6)).trans (by rw [harg8.read_unread]))
    ((read_prepK arg20.view arg20.view.junk arg9.view (harg9.unread x7)).trans (by rw [harg9.read_unread]))
    ((read_prepB arg21.view arg21.view.junk arg9.view (harg9.unread x7) arg10.view (harg10.unread x8)).trans (by rw [harg9.read_unread, harg10.read_unread]))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; exact (View.read_writes_full arg13.view f11 inb_S8x32x64_S8x32x64_0_0_0 _ []).trans (congrArg k0_pay2 ((View.readAt_full arg22.view _ inb_S8x32x64_S8x32x64_0_0_0).trans HL.2))
  isplitl [H12]
  · iexists _; isplitr; swap; · iexact H12
    ipureintro; exact (View.read_writes_full arg14.view f12 inb_S8x64x64_S8x64x64_0_0_0 _ []).trans ((View.readAt_full arg15.view _ inb_S8x64x64_S8x64x64_0_0_0).trans HL.1)
  isplitl [HS0]
  · iexists _; isplitr; swap; · iexact HS0
    ipureintro; exact HL.1
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.KernelIdeal.Run

end
-- ==== Proof.Run.lean ====
/- The run of the program: what the carried state holds after each grid point, the proof data with both output blocks named,
   the body at a generic point, and the whole run. -/
module

public import proofs.«01_k».proof.Proof.BodyA
public import proofs.«01_k».proof.Proof.BodyB
public import proofs.«01_k».proof.Proof.BodyC
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state point `t` leaves, from the state `S` it starts from. -/
def stepS (c : Dev nD) (t : Fin cfg0.N) (S : Vec F S8x64x64 .f32) : Vec F S8x64x64 .f32 :=
  sBlk (iblk m c 1 t) (iblk m c 2 t) (iblk m c 4 t) (iblk m c 5 t) (iblk m c 6 t) (iblk m c 7 t) (iblk m c 8 t) (iblk m c 9 t) (iblk m c 10 t) S

/-- The carried state after point `n`: at a row's first point from the given state, else from what the point before left. -/
def sAt (c : Dev nD) : (n : ℕ) → n < cfg0.N → Vec F S8x64x64 .f32
  | 0, hn => stepS m c ⟨0, hn⟩ (iblk m c 9 ⟨0, hn⟩)
  | n + 1, hn => stepS m c ⟨n + 1, hn⟩ (if (n + 1) % 24 = 0 then iblk m c 9 ⟨n + 1, hn⟩ else sAt c n (Nat.lt_of_succ_lt hn))

/-- The state point `t` starts from. -/
def sBefore (c : Dev nD) (t : Fin cfg0.N) : Vec F S8x64x64 .f32 :=
  if t.val % 24 = 0 then iblk m c 9 t else sAt m c (t.val - 1) (lt_of_le_of_lt (Nat.sub_le _ _) t.isLt)

/-- A row's first point starts from the given state. -/
theorem sBefore_first (c : Dev nD) (t : Fin cfg0.N) (h : t.val % 24 = 0) : sBefore m c t = iblk m c 9 t := if_pos h

/-- The carried state after a point is the point's step from the state it starts from. -/
theorem sAt_eq (c : Dev nD) (t : Fin cfg0.N) : sAt m c t.val t.isLt = stepS m c t (sBefore m c t) := by
  obtain ⟨n, hn⟩ := t
  cases n with
  | zero => rw [sBefore_first m c ⟨0, hn⟩ (Nat.zero_mod 24)]; exact sAt.eq_1 m c hn
  | succ n => unfold sBefore; exact sAt.eq_2 m c n hn

/-- Any other point starts from what the point before left. -/
theorem sBefore_next (c : Dev nD) (t : Fin cfg0.N) (h : ¬t.val % 24 = 0) :
    sBefore m c t = sAt m c (t.val - 1) (lt_of_le_of_lt (Nat.sub_le _ _) t.isLt) := if_neg h

/-- The output block point `t` leaves. -/
def yAt (c : Dev nD) (t : Fin cfg0.N) : Vec F S8x32x64 .bf16 :=
  yBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (sBefore m c t)

/-- The invariant before position `n`: the carried state at what the point before left, the other scratch at anything. -/
def PhiS (c : Dev nD) : (n : ℕ) → n ≤ cfg0.N → sProp 𝕄
  | 0, _ => Pipeline.ΦA spec0 c
  | n + 1, hn => iprop(iprop(owns (c : Thread nD τ) scM0_0 fullShare (sAt m c n hn) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n`: the carried state at that point's. -/
theorem PhiS_succ (c : Dev nD) (n : ℕ) (hn : n < cfg0.N) :
    PhiS m c (n + 1) hn = iprop(iprop(owns (c : Thread nD τ) scM0_0 fullShare (sAt m c n hn) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried state at what the point before left. -/
theorem PhiS_pos (c : Dev nD) (n : ℕ) (h : n ≤ cfg0.N) (hz : n ≠ 0) :
    PhiS m c n h = iprop(iprop(owns (c : Thread nD τ) scM0_0 fullShare (sAt m c (n - 1) (by omega)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-- The proof data: the arrays as the region finds them; after a point each input's buffer at its block, the first output's
    at the point's outputs, the second's at the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, _⟩ => sAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
/-- After a point the first output's block is the point's outputs. -/
theorem after0_11 (c : Dev nD) (t : Fin cfg0.N) : (dats m 0 c).after 11 t = yAt m c t := by dsimp only [dats]
/-- After a point the second output's block is the carried state. -/
theorem after0_12 (c : Dev nD) (t : Fin cfg0.N) : (dats m 0 c).after 12 t = sAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]

theorem leaves0_11 (c : Dev nD) (t : Fin cfg0.N) :
    (dats m 0 c).leavesExact 11 t = owns (c : Thread nD τ) (ms0_11 t) fullShare (yAt m c t) := by
  unfold Dat.leavesExact; rw [(rfl : cfg0.idle 11 (grid0.coords t) = false), after0_11]

/-- At a row's last point the second output's block is stored. -/
theorem leaves0_12_last (c : Dev nD) (t : Fin cfg0.N) (h : t.val % 24 = 23) :
    (dats m 0 c).leavesExact 12 t = owns (c : Thread nD τ) (ms0_12 t) fullShare (sAt m c t.val t.isLt) := by
  have hi : cfg0.idle 12 (grid0.coords t) = false := by
    show (!(k0_cond2 (grid0.coords t) == 1#1)) = false
    rw [(hcond0_1 t).mpr h]; rfl
  unfold Dat.leavesExact; rw [hi, after0_12]

/-- At any other point it is left as found. -/
theorem leaves0_12_other (c : Dev nD) (t : Fin cfg0.N) (h : ¬t.val % 24 = 23) :
    (dats m 0 c).leavesExact 12 t = iprop(∃ d, owns (c : Thread nD τ) (ms0_12 t) fullShare ((dats m 0 c).before 12 t d)) := by
  have hi : cfg0.idle 12 (grid0.coords t) = true := by
    show (!(k0_cond2 (grid0.coords t) == 1#1)) = true
    rw [beq_eq_false_iff_ne.mpr (fun e => h ((hcond0_1 t).mp e))]; rfl
  exact Dat.leavesExact_idle _ 12 t hi (by
    cases hf : (cfg0.win 12).flush t
    · rfl
    · exact absurd ((flush0_12 t).mp hf) h)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 24000000 in
/-- THE BODY at any point: the point's position in its row says which case it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11]
  rw [sAt_eq]
  unfold stepS yAt
  by_cases h0 : t.val % 24 = 0
  · have h1 : ¬t.val % 24 = 23 := by omega
    rw [leaves0_12_other m c t h1, sBefore_first m c t h0, PhiS_castSucc m c t]
    by_cases hz : t.val = 0
    · rw [PhiS_zero m c _ _ hz, PhiA0_eq]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, H11, H12, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [PhiS_pos m c _ _ hz]
      -- any state
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS0]; · iexists _; iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, H11, H12, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun e => h0 (by rw [e])
    by_cases h1 : t.val % 24 = 23
    · rw [leaves0_12_last m c t h1, sAt_eq, PhiS_castSucc m c t, PhiS_pos m c _ _ hz, sBefore_next m c t h0]
      unfold stepS
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, H11, H12, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [leaves0_12_other m c t h1, PhiS_castSucc m c t, PhiS_pos m c _ _ hz, sBefore_next m c t h0]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, H11, H12, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

set_option backward.isDefEq.respectTransparency.types false in
set_option maxHeartbeats 800000 in
/-- THE RUN: from any memory with zero counters every fair execution of the program ends, each array of the pipeline at what
    the proof data gives, the other buffers as the tail of host operations leaves them, and every counter at zero. -/
theorem run_main_quiescent : θ_run defs (onTc (τ := τ) (main (F := F))) (s₀ m ρ) (fun r => (Pipeline.FramePost cfgs (dats m) 0
    (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0
    (Pipeline.afterTail₀ cfgs (dats m) 0 (V0 m) [hostOps1])) :=
  (θ_run defs _ _).mono (fun _ h => h.1) (run_main_quiescent m ρ)

/-- THE FRAME: the program ends with its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Same.lean ====
/- The program `Kernel` and its idealization `KernelIdeal` are printed from one text in which the ideal pass rewrote
   nothing, so they are the same program; whatever is proved of the second at every instance of the floats holds of the
   first. -/
module

public import proofs.«01_k».proof.Proof.Run
public import proofs.«01_k».proof.Proof.Gen.Kernel.Loops

@[expose] public section

set_option maxRecDepth 65536
set_option maxHeartbeats 20000000

noncomputable section

namespace Cert.Same

open Idealize.ShloMosaic Idealize.SL.Sem

variable {F : FTy → Type} [FloatOps F]

/-- The two kernels' bodies, over every grid point, are the same programs. -/
theorem defs₀_eq : Cert.Kernel.defs₀ (F := F) = Cert.KernelIdeal.defs₀ (F := F) := by
  unfold Cert.Kernel.defs₀ Cert.KernelIdeal.defs₀
  refine congrArg Idealize.ShloMosaic.Defs.onTc (funext fun x => funext fun y => ?_)
  match x, y with
  | 0, (t, s) => rfl
  | ⟨n+1, h⟩, _ => exact absurd h (by omega)

/-- The two pipelines around the bodies are the same. -/
theorem defs_eq : Cert.Kernel.defs (F := F) = Cert.KernelIdeal.defs (F := F) := by
  unfold Cert.Kernel.defs Cert.KernelIdeal.defs
  exact congrArg (fun d => Idealize.ShloMosaic.Pipeline.defs Cert.KernelIdeal.pcfgs d) defs₀_eq

/-- The two host programs are the same. -/
theorem main_eq : Cert.Kernel.main (F := F) = Cert.KernelIdeal.main (F := F) := rfl

open Cert.Kernel in
/-- THE FRAME of `Kernel`: it runs, its argument arrays end unchanged, and every counter ends at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  rw [defs_eq, main_eq]
  exact Cert.KernelIdeal.Run.frame (F := F) m ρ

end Cert.Same

end
-- ==== Proof.Step.lean ====
/- The recurrence over the extended reals: one token of one head, the head's states over the tokens, and its outputs. -/
module

public import Idealize.ShloMosaic.PureOps.Ideal

@[expose] public section

noncomputable section

namespace Cert.Math

open Idealize.ShloMosaic

/-- The state after a token, at row `i` and column `j`: with `T` the state before it, or the given state `s0` where a
    segment starts, `T i j * w j + (∑ l, T i l * (0 - kk l)) * b j + v i * k j`. -/
def step (p : Bool) (k v w kk b : Fin 64 → EReal) (s0 s : Fin 64 → Fin 64 → EReal) (i j : Fin 64) : EReal :=
  (if p then s0 i j else s i j) * w j + (∑ l, (if p then s0 i l else s i l) * (0 - kk l)) * b j + v i * k j

/-- The output row at `i`: the new state's row against `r`. -/
def out (r : Fin 64 → EReal) (s : Fin 64 → Fin 64 → EReal) (i : Fin 64) : EReal := ∑ j, s i j * r j

/-- The inputs: codes and scales of `r k v`, the logarithm of the decay rate, the removal key, the rate, the given states,
    and where segments start. -/
structure Inputs where
  (r k v : Fin 2 → Fin 768 → Fin 16 → Fin 64 → EReal)
  (rs ks vs : Fin 2 → Fin 768 → Fin 16 → EReal)
  (wl kk ic : Fin 2 → Fin 768 → Fin 16 → Fin 64 → EReal)
  s0 : Fin 2 → Fin 16 → Fin 64 → Fin 64 → EReal
  seg : Fin 2 → Fin 768 → Bool

/-- Token number `n`. -/
def tk (n : ℕ) : Fin 768 := ⟨n % 768, Nat.mod_lt _ (by decide)⟩

/-- A token is the one of its own number. -/
theorem tk_val (t : Fin 768) : tk t.val = t := Fin.ext (Nat.mod_eq_of_lt t.isLt)

namespace Inputs

variable (I : Inputs) (b : Fin 2) (h : Fin 16)

/-- The state of head `h` of batch `b` after token `t`, from the state `s` before it. -/
def next (t : Fin 768) (s : Fin 64 → Fin 64 → EReal) : Fin 64 → Fin 64 → EReal :=
  step (I.seg b t) (fun j => I.k b t h j * I.ks b t h) (fun j => I.v b t h j * I.vs b t h)
    (fun j => Ideal.exp (0 - Ideal.exp (I.wl b t h j))) (fun j => I.kk b t h j) (fun j => I.kk b t h j * I.ic b t h j) (I.s0 b h) s

/-- The state before token `n`. -/
def state : ℕ → Fin 64 → Fin 64 → EReal
  | 0 => I.s0 b h
  | n + 1 => I.next b h (tk n) (state n)

/-- The state after a token follows from the state before it. -/
theorem state_succ (t : Fin 768) : I.state b h (t.val + 1) = I.next b h t (I.state b h t.val) :=
  congrArg (fun u => I.next b h u (I.state b h t.val)) (tk_val t)

/-- The output of token `t`. -/
def y (t : Fin 768) (i : Fin 64) : EReal := out (fun j => I.r b t h j * I.rs b t h) (I.state b h (t.val + 1)) i

end Inputs

end Cert.Math

end
-- ==== Proof.HeadVal.lean ====
/- What one token of one head computes over the extended reals, and what the prologue leaves in its scratch arrays, entry
   by entry. -/
module

public import proofs.«01_k».proof.Proof.Prep
public import proofs.«01_k».proof.Proof.Step
public import Idealize.ShloMosaic.Lib.Pipeline.ValueKit

@[expose] public section

set_option maxRecDepth 16384

noncomputable section

namespace Cert.KernelIdeal.Run

open Idealize.ShloMosaic Idealize.ShloMosaic.TcCoe
open Cert.KernelIdeal.Gen

/-- A head's new state is the recurrence's step. -/
theorem headS_at (k v w kk b : Vec Ideal S1x1x64 .f32) (st : Vec Ideal S1x1x1 .f32) (s0 s : Vec Ideal S1x64x64 .f32) (i j : Fin 64) :
    headS k v w kk b st s0 s (ix3 0 i j)
      = Cert.Math.step (decide ((0 : EReal) < st (ix3 0 0 0))) (fun j => k (ix3 0 0 j)) (fun j => v (ix3 0 0 j)) (fun j => w (ix3 0 0 j))
          (fun j => kk (ix3 0 0 j)) (fun j => b (ix3 0 0 j)) (fun i j => s0 (ix3 0 i j)) (fun i j => s (ix3 0 i j)) i j := by
  unfold headS
  pointwise [k0_pay18, k0_pay14, k0_pay15, k0_pay16, k0_pay17, Cert.Math.step]
  simp only [decide_eq_true_eq]

/-- A head's output row is its new state against the row `r`. -/
theorem headY_at (r k v w kk b : Vec Ideal S1x1x64 .f32) (st : Vec Ideal S1x1x1 .f32) (s0 s : Vec Ideal S1x64x64 .f32) (i : Fin 64) :
    headY r k v w kk b st s0 s (ix3 0 0 i)
      = Cert.Math.out (fun j => r (ix3 0 0 j)) (fun i j => headS k v w kk b st s0 s (ix3 0 i j)) i := by
  unfold headY headS
  pointwise [k0_pay18, k0_pay20, k0_pay19, k0_pay13, Cert.Math.out]

/-- Slab `h` of a block of rows, at an entry. -/
theorem rowsOf_at {F : FTy → Type} {e : EltTy} (x : Vec F S8x32x64 e) (h : Fin 8) (t : Fin 32) (j : Fin 64) :
    rowsOf x h (ix3 0 t j) = x (ix3 h t j) := by
  unfold rowsOf VecWindow.window
  blk_ext []

/-- Slab `h` of a block of scales, at an entry. -/
theorem scalesOf_at {F : FTy → Type} (x : Vec F S8x32x1 .f32) (h : Fin 8) (t : Fin 32) :
    scalesOf x h (ix3 0 t 0) = x (ix3 h t 0) := by
  unfold scalesOf VecWindow.window
  blk_ext []

/-- Row `(h, k)` of a scratch array, at an entry. -/
theorem rowOf_at {F : FTy → Type} (x : Vec F S8x32x64 .f32) (k : Fin k0_t1_loop.trips) (h : Fin 8) (j : Fin 64) :
    rowOf x k h (ix3 0 0 j) = x (ix3 h (k.cast trips_eq) j) := by
  unfold rowOf VecWindow.window
  blk_ext []
  exact Nat.add_zero _

/-- Slab `h` of a state array, at an entry. -/
theorem slabOf_at {F : FTy → Type} (x : Vec F S8x64x64 .f32) (h : Fin 8) (i j : Fin 64) :
    slabOf x h (ix3 0 i j) = x (ix3 h i j) := by
  unfold slabOf VecWindow.window
  blk_ext []

/-- The flag of token `k`. -/
theorem flagOf_at {F : FTy → Type} (x : Vec F S1x32x1 .f32) (k : Fin k0_t1_loop.trips) :
    flagOf x k (ix3 0 0 0) = x (ix3 0 (k.cast trips_eq) 0) := by
  unfold flagOf VecWindow.window
  blk_ext []
  exact Nat.add_zero _

/-- Dequantized rows: code times scale. -/
theorem prepQ_at (x : Vec Ideal S8x32x64 .fp8e4m3) (s : Vec Ideal S8x32x1 .f32) (h : Fin 8) (t : Fin 32) (j : Fin 64) :
    prepQ x s (ix3 h t j) = (x (ix3 h t j) : EReal) * s (ix3 h t 0) := by
  unfold prepQ slabs
  pointwise [k0_pay81]
  exact congrArg₂ (fun a b : EReal => a * b) (rowsOf_at x h t j) (scalesOf_at s h t)

/-- The decay: exponential of minus the exponential. -/
theorem prepW_at (x : Vec Ideal S8x32x64 .bf16) (h : Fin 8) (t : Fin 32) (j : Fin 64) :
    prepW x (ix3 h t j) = Ideal.exp (0 - Ideal.exp (x (ix3 h t j) : EReal)) := by
  unfold prepW slabs
  pointwise [k0_pay86]
  exact congrArg (fun a : EReal => Ideal.exp (0 - Ideal.exp a)) (rowsOf_at x h t j)

/-- The removal key, unchanged by its widening. -/
theorem prepK_at (x : Vec Ideal S8x32x64 .bf16) (h : Fin 8) (t : Fin 32) (j : Fin 64) :
    prepK x (ix3 h t j) = (x (ix3 h t j) : EReal) := by
  unfold prepK slabs
  pointwise [k0_pay87]
  exact rowsOf_at x h t j

/-- The replacement key: removal key times rate. -/
theorem prepB_at (x z : Vec Ideal S8x32x64 .bf16) (h : Fin 8) (t : Fin 32) (j : Fin 64) :
    prepB x z (ix3 h t j) = (x (ix3 h t j) : EReal) * z (ix3 h t j) := by
  unfold prepB slabs
  pointwise [k0_pay88]
  exact congrArg₂ (fun a b : EReal => a * b) (rowsOf_at x h t j) (rowsOf_at z h t j)

/-- A head's state after a token of the block is the step from the block's rows of that token. -/
theorem tokS_at (xs0 : Vec Ideal S8x64x64 .f32) (xg : Vec Ideal S1x32x1 .f32) (xk xv xw xkk xb : Vec Ideal S8x32x64 .f32)
    (k : Fin k0_t1_loop.trips) (S : Vec Ideal S8x64x64 .f32) (h : Fin 8) (i j : Fin 64) :
    tokS xs0 xg xk xv xw xkk xb k S h (ix3 0 i j)
      = Cert.Math.step (decide ((0 : EReal) < xg (ix3 0 (k.cast trips_eq) 0))) (fun j => xk (ix3 h (k.cast trips_eq) j))
          (fun j => xv (ix3 h (k.cast trips_eq) j)) (fun j => xw (ix3 h (k.cast trips_eq) j)) (fun j => xkk (ix3 h (k.cast trips_eq) j))
          (fun j => xb (ix3 h (k.cast trips_eq) j)) (fun i j => xs0 (ix3 h i j)) (fun i j => S (ix3 h i j)) i j := by
  unfold tokS
  rw [headS_at]
  simp only [rowOf_at, slabOf_at, flagOf_at]

/-- A head's output row for a token of the block is its new state against the block's row `r` of that token. -/
theorem tokY_at (xs0 : Vec Ideal S8x64x64 .f32) (xg : Vec Ideal S1x32x1 .f32) (xr xk xv xw xkk xb : Vec Ideal S8x32x64 .f32)
    (k : Fin k0_t1_loop.trips) (S : Vec Ideal S8x64x64 .f32) (h : Fin 8) (i : Fin 64) :
    tokY xs0 xg xr xk xv xw xkk xb k S h (ix3 0 0 i)
      = Cert.Math.out (fun j => xr (ix3 h (k.cast trips_eq) j)) (fun i j => tokS xs0 xg xk xv xw xkk xb k S h (ix3 0 i j)) i := by
  unfold tokY tokS
  rw [headY_at]
  simp only [rowOf_at]

end Cert.KernelIdeal.Run

end
-- ==== Proof.Blocks.lean ====
/- What a grid point's input blocks hold, entry by entry, in terms of the argument arrays: point `t` takes eight heads of one
   batch row, numbered from `t / 24 * 8`, and the 32 tokens from `t % 24 * 32`. -/
module

public import proofs.«01_k».proof.Proof.Run
public import proofs.«01_k».proof.Proof.HeadVal

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

/-- The inputs of the recurrence, read off the argument arrays. -/
def inputs (c : Dev nD) : Cert.Math.Inputs where
  r b t h j := (m ((c : Thread nD τ).loc main_arg0) : Vec Ideal S2x768x16x64 .fp8e4m3) (ix4 b t h j)
  k b t h j := (m ((c : Thread nD τ).loc main_arg1) : Vec Ideal S2x768x16x64 .fp8e4m3) (ix4 b t h j)
  v b t h j := (m ((c : Thread nD τ).loc main_arg2) : Vec Ideal S2x768x16x64 .fp8e4m3) (ix4 b t h j)
  rs b t h := (m ((c : Thread nD τ).loc main_arg3) : Vec Ideal S2x768x16 .f32) (ix3 b t h)
  ks b t h := (m ((c : Thread nD τ).loc main_arg4) : Vec Ideal S2x768x16 .f32) (ix3 b t h)
  vs b t h := (m ((c : Thread nD τ).loc main_arg5) : Vec Ideal S2x768x16 .f32) (ix3 b t h)
  wl b t h j := (m ((c : Thread nD τ).loc main_arg6) : Vec Ideal S2x768x16x64 .bf16) (ix4 b t h j)
  kk b t h j := (m ((c : Thread nD τ).loc main_arg7) : Vec Ideal S2x768x16x64 .bf16) (ix4 b t h j)
  ic b t h j := (m ((c : Thread nD τ).loc main_arg8) : Vec Ideal S2x768x16x64 .bf16) (ix4 b t h j)
  s0 b h i j := (m ((c : Thread nD τ).loc main_arg9) : Vec Ideal S2x16x64x64 .f32) (ix4 b h i j)
  seg b t := decide ((m ((c : Thread nD τ).loc main_arg10) : Vec Ideal S2x768 .i1) (ix2 b t) ≠ (0#1 : BitVec 1))

/-- The batch row of point `t`'s head `h`. -/
def bOf (t : Fin cfg0.N) (h : Fin 8) : Fin 2 := ⟨(t.val / 24 * 8 + h.val) / 16, by
  have := (show t.val < 96 from t.isLt); have := h.isLt; omega⟩

/-- The number in its batch row of point `t`'s head `h`. -/
def hOf (t : Fin cfg0.N) (h : Fin 8) : Fin 16 := ⟨(t.val / 24 * 8 + h.val) % 16, Nat.mod_lt _ (by decide)⟩

/-- The token of point `t`'s row `u`. -/
def tOf (t : Fin cfg0.N) (u : Fin 32) : Fin 768 := ⟨t.val % 24 * 32 + u.val, by have := u.isLt; omega⟩

/-- Where each window's block sits at point `t`. -/
theorem idx : ∀ t : Fin cfg0.N, win0_0.index t = ![t.val / 24, t.val % 24, 0] ∧ win0_1.index t = ![t.val / 24, t.val % 24, 0]
    ∧ win0_2.index t = ![t.val / 24, t.val % 24, 0] ∧ win0_3.index t = ![t.val / 24, t.val % 24, 0]
    ∧ win0_4.index t = ![t.val / 24, t.val % 24, 0] ∧ win0_5.index t = ![t.val / 24, t.val % 24, 0]
    ∧ win0_6.index t = ![t.val / 24, t.val % 24, 0] ∧ win0_7.index t = ![t.val / 24, t.val % 24, 0]
    ∧ win0_8.index t = ![t.val / 24, t.val % 24, 0] ∧ win0_9.index t = ![t.val / 24, 0, 0]
    ∧ win0_10.index t = ![t.val / 48, t.val % 24, 0] ∧ win0_11.index t = ![t.val / 24, t.val % 24, 0]
    ∧ win0_12.index t = ![t.val / 24, 0, 0] :=
  (by decide +kernel : ∀ t : Fin grid0.N, _)

/-- Window 0's array as the launch finds it: argument 0 with heads before tokens, batch rows and heads as one axis. -/
theorem V_v2 (c : Dev nD) : V m c main_v2 = shapeCast S32x768x64 (transpose S2x16x768x64 [0, 2, 1, 3]
    (m ((c : Thread nD τ).loc main_arg0) : Vec Ideal S2x768x16x64 .fp8e4m3) transposes_S2x768x16x64_S2x16x768x64_0_2_1_3)
    shapeCasts_S2x16x768x64_S32x768x64 := rfl

/-- Window 0's block at a point. -/
theorem iblk0_at (c : Dev nD) (t : Fin cfg0.N) (h : Fin 8) (u : Fin 32) (j : Fin 64) :
    (iblk m c 0 t : Vec Ideal S8x32x64 .fp8e4m3) (ix3 h u j) = (inputs m c).r (bOf t h) (tOf t u) (hOf t h) j := by
  dsimp only [inputs]
  unfold iblk
  have e : V m c (Pipeline.arrRef spec0 0) = _ := V_v2 m c
  rw [e]
  blk_simp [(idx t).1]
  pointwise
  blk_ext [(idx t).1, bOf, tOf, hOf]

/-- Window 1's array as the launch finds it: argument 1 with heads before tokens, batch rows and heads as one axis. -/
theorem V_v4 (c : Dev nD) : V m c main_v4 = shapeCast S32x768x64 (transpose S2x16x768x64 [0, 2, 1, 3]
    (m ((c : Thread nD τ).loc main_arg1) : Vec Ideal S2x768x16x64 .fp8e4m3) transposes_S2x768x16x64_S2x16x768x64_0_2_1_3)
    shapeCasts_S2x16x768x64_S32x768x64 := rfl

/-- Window 1's block at a point. -/
theorem iblk1_at (c : Dev nD) (t : Fin cfg0.N) (h : Fin 8) (u : Fin 32) (j : Fin 64) :
    (iblk m c 1 t : Vec Ideal S8x32x64 .fp8e4m3) (ix3 h u j) = (inputs m c).k (bOf t h) (tOf t u) (hOf t h) j := by
  dsimp only [inputs]
  unfold iblk
  have e : V m c (Pipeline.arrRef spec0 1) = _ := V_v4 m c
  rw [e]
  blk_simp [(idx t).2.1]
  pointwise
  blk_ext [(idx t).2.1, bOf, tOf, hOf]

/-- Window 2's array as the launch finds it: argument 2 with heads before tokens, batch rows and heads as one axis. -/
theorem V_v6 (c : Dev nD) : V m c main_v6 = shapeCast S32x768x64 (transpose S2x16x768x64 [0, 2, 1, 3]
    (m ((c : Thread nD τ).loc main_arg2) : Vec Ideal S2x768x16x64 .fp8e4m3) transposes_S2x768x16x64_S2x16x768x64_0_2_1_3)
    shapeCasts_S2x16x768x64_S32x768x64 := rfl

/-- Window 2's block at a point. -/
theorem iblk2_at (c : Dev nD) (t : Fin cfg0.N) (h : Fin 8) (u : Fin 32) (j : Fin 64) :
    (iblk m c 2 t : Vec Ideal S8x32x64 .fp8e4m3) (ix3 h u j) = (inputs m c).v (bOf t h) (tOf t u) (hOf t h) j := by
  dsimp only [inputs]
  unfold iblk
  have e : V m c (Pipeline.arrRef spec0 2) = _ := V_v6 m c
  rw [e]
  blk_simp [(idx t).2.2.1]
  pointwise
  blk_ext [(idx t).2.2.1, bOf, tOf, hOf]

/-- Window 6's array as the launch finds it: argument 6 with heads before tokens, batch rows and heads as one axis. -/
theorem V_v14 (c : Dev nD) : V m c main_v14 = shapeCast S32x768x64 (transpose S2x16x768x64 [0, 2, 1, 3]
    (m ((c : Thread nD τ).loc main_arg6) : Vec Ideal S2x768x16x64 .bf16) transposes_S2x768x16x64_S2x16x768x64_0_2_1_3)
    shapeCasts_S2x16x768x64_S32x768x64 := rfl

/-- Window 6's block at a point. -/
theorem iblk6_at (c : Dev nD) (t : Fin cfg0.N) (h : Fin 8) (u : Fin 32) (j : Fin 64) :
    (iblk m c 6 t : Vec Ideal S8x32x64 .bf16) (ix3 h u j) = (inputs m c).wl (bOf t h) (tOf t u) (hOf t h) j := by
  dsimp only [inputs]
  unfold iblk
  have e : V m c (Pipeline.arrRef spec0 6) = _ := V_v14 m c
  rw [e]
  blk_simp [(idx t).2.2.2.2.2.2.1]
  pointwise
  blk_ext [(idx t).2.2.2.2.2.2.1, bOf, tOf, hOf]

/-- Window 7's array as the launch finds it: argument 7 with heads before tokens, batch rows and heads as one axis. -/
theorem V_v16 (c : Dev nD) : V m c main_v16 = shapeCast S32x768x64 (transpose S2x16x768x64 [0, 2, 1, 3]
    (m ((c : Thread nD τ).loc main_arg7) : Vec Ideal S2x768x16x64 .bf16) transposes_S2x768x16x64_S2x16x768x64_0_2_1_3)
    shapeCasts_S2x16x768x64_S32x768x64 := rfl

/-- Window 7's block at a point. -/
theorem iblk7_at (c : Dev nD) (t : Fin cfg0.N) (h : Fin 8) (u : Fin 32) (j : Fin 64) :
    (iblk m c 7 t : Vec Ideal S8x32x64 .bf16) (ix3 h u j) = (inputs m c).kk (bOf t h) (tOf t u) (hOf t h) j := by
  dsimp only [inputs]
  unfold iblk
  have e : V m c (Pipeline.arrRef spec0 7) = _ := V_v16 m c
  rw [e]
  blk_simp [(idx t).2.2.2.2.2.2.2.1]
  pointwise
  blk_ext [(idx t).2.2.2.2.2.2.2.1, bOf, tOf, hOf]

/-- Window 8's array as the launch finds it: argument 8 with heads before tokens, batch rows and heads as one axis. -/
theorem V_v18 (c : Dev nD) : V m c main_v18 = shapeCast S32x768x64 (transpose S2x16x768x64 [0, 2, 1, 3]
    (m ((c : Thread nD τ).loc main_arg8) : Vec Ideal S2x768x16x64 .bf16) transposes_S2x768x16x64_S2x16x768x64_0_2_1_3)
    shapeCasts_S2x16x768x64_S32x768x64 := rfl

/-- Window 8's block at a point. -/
theorem iblk8_at (c : Dev nD) (t : Fin cfg0.N) (h : Fin 8) (u : Fin 32) (j : Fin 64) :
    (iblk m c 8 t : Vec Ideal S8x32x64 .bf16) (ix3 h u j) = (inputs m c).ic (bOf t h) (tOf t u) (hOf t h) j := by
  dsimp only [inputs]
  unfold iblk
  have e : V m c (Pipeline.arrRef spec0 8) = _ := V_v18 m c
  rw [e]
  blk_simp [(idx t).2.2.2.2.2.2.2.2.1]
  pointwise
  blk_ext [(idx t).2.2.2.2.2.2.2.2.1, bOf, tOf, hOf]

/-- Window 3's array as the launch finds it: argument 3 with heads before tokens, batch rows and heads as one axis. -/
theorem V_v8 (c : Dev nD) : V m c main_v8 = shapeCast S32x768x1 (transpose S2x16x768 [0, 2, 1]
    (m ((c : Thread nD τ).loc main_arg3) : Vec Ideal S2x768x16 .f32) transposes_S2x768x16_S2x16x768_0_2_1)
    shapeCasts_S2x16x768_S32x768x1 := rfl

/-- Window 3's block at a point. -/
theorem iblk3_at (c : Dev nD) (t : Fin cfg0.N) (h : Fin 8) (u : Fin 32) :
    (iblk m c 3 t : Vec Ideal S8x32x1 .f32) (ix3 h u 0) = (inputs m c).rs (bOf t h) (tOf t u) (hOf t h) := by
  dsimp only [inputs]
  unfold iblk
  have e : V m c (Pipeline.arrRef spec0 3) = _ := V_v8 m c
  rw [e]
  blk_simp [(idx t).2.2.2.1]
  pointwise
  blk_ext [(idx t).2.2.2.1, bOf, tOf, hOf]

/-- Window 4's array as the launch finds it: argument 4 with heads before tokens, batch rows and heads as one axis. -/
theorem V_v10 (c : Dev nD) : V m c main_v10 = shapeCast S32x768x1 (transpose S2x16x768 [0, 2, 1]
    (m ((c : Thread nD τ).loc main_arg4) : Vec Ideal S2x768x16 .f32) transposes_S2x768x16_S2x16x768_0_2_1)
    shapeCasts_S2x16x768_S32x768x1 := rfl

/-- Window 4's block at a point. -/
theorem iblk4_at (c : Dev nD) (t : Fin cfg0.N) (h : Fin 8) (u : Fin 32) :
    (iblk m c 4 t : Vec Ideal S8x32x1 .f32) (ix3 h u 0) = (inputs m c).ks (bOf t h) (tOf t u) (hOf t h) := by
  dsimp only [inputs]
  unfold iblk
  have e : V m c (Pipeline.arrRef spec0 4) = _ := V_v10 m c
  rw [e]
  blk_simp [(idx t).2.2.2.2.1]
  pointwise
  blk_ext [(idx t).2.2.2.2.1, bOf, tOf, hOf]

/-- Window 5's array as the launch finds it: argument 5 with heads before tokens, batch rows and heads as one axis. -/
theorem V_v12 (c : Dev nD) : V m c main_v12 = shapeCast S32x768x1 (transpose S2x16x768 [0, 2, 1]
    (m ((c : Thread nD τ).loc main_arg5) : Vec Ideal S2x768x16 .f32) transposes_S2x768x16_S2x16x768_0_2_1)
    shapeCasts_S2x16x768_S32x768x1 := rfl

/-- Window 5's block at a point. -/
theorem iblk5_at (c : Dev nD) (t : Fin cfg0.N) (h : Fin 8) (u : Fin 32) :
    (iblk m c 5 t : Vec Ideal S8x32x1 .f32) (ix3 h u 0) = (inputs m c).vs (bOf t h) (tOf t u) (hOf t h) := by
  dsimp only [inputs]
  unfold iblk
  have e : V m c (Pipeline.arrRef spec0 5) = _ := V_v12 m c
  rw [e]
  blk_simp [(idx t).2.2.2.2.2.1]
  pointwise
  blk_ext [(idx t).2.2.2.2.2.1, bOf, tOf, hOf]

/-- Window 9's array as the launch finds it: the first state, batch rows and heads as one axis. -/
theorem V_v19 (c : Dev nD) : V m c main_v19 = shapeCast S32x64x64
    (m ((c : Thread nD τ).loc main_arg9) : Vec Ideal S2x16x64x64 .f32) shapeCasts_S2x16x64x64_S32x64x64 := rfl

/-- An entry of an array of 32 members read as two rows of 16. -/
theorem merge_at (x : Vec Ideal S2x16x64x64 .f32) (a : Fin 32) (i j : Fin 64) :
    shapeCast S32x64x64 x shapeCasts_S2x16x64x64_S32x64x64 (ix3 a i j)
      = x (ix4 ⟨a.val / 16, by omega⟩ ⟨a.val % 16, by omega⟩ i j) := by
  pointwise

/-- Window 9's block at a point. -/
theorem iblk9_at (c : Dev nD) (t : Fin cfg0.N) (h : Fin 8) (i j : Fin 64) :
    (iblk m c 9 t : Vec Ideal S8x64x64 .f32) (ix3 h i j) = (inputs m c).s0 (bOf t h) (hOf t h) i j := by
  have e : V m c (Pipeline.arrRef spec0 9) = _ := V_v19 m c
  have n : t.val / 24 * 8 + h.val < 32 := by have := (show t.val < 96 from t.isLt); have := h.isLt; omega
  refine Eq.trans ?_ (merge_at (m ((c : Thread nD τ).loc main_arg9) : Vec Ideal S2x16x64x64 .f32)
    ⟨t.val / 24 * 8 + h.val, n⟩ i j)
  unfold iblk
  rw [e]
  blk_ext [(idx t).2.2.2.2.2.2.2.2.2.1]

/-- Window 10's array as the launch finds it: the flags as numbers, one column. -/
theorem V_v20 (c : Dev nD) : V m c main_v20 = shapeCast S2x768x1
    (uitofp (F := Ideal) .f32 (m ((c : Thread nD τ).loc main_arg10) : Vec Ideal S2x768 .i1)) shapeCasts_S2x768_S2x768x1 := rfl

/-- A one-bit number taken as a real is positive exactly when the bit is set. -/
theorem bit_pos (b : BitVec 1) : decide ((0 : EReal) < (FloatOps.uitofp .f32 b : Ideal .f32)) = decide (b ≠ 0#1) := by
  rcases BitVec.eq_zero_or_eq_one b with rfl | rfl
  · simp [FloatOps.uitofp]
  · simp [FloatOps.uitofp]

/-- Window 10's block at a point: its number is positive exactly at a set flag. -/
theorem iblk10_at (c : Dev nD) (t : Fin cfg0.N) (h : Fin 8) (u : Fin 32) :
    decide ((0 : EReal) < (iblk m c 10 t : Vec Ideal S1x32x1 .f32) (ix3 0 u 0)) = (inputs m c).seg (bOf t h) (tOf t u) := by
  dsimp only [inputs]
  unfold iblk
  have e : V m c (Pipeline.arrRef spec0 10) = _ := V_v20 m c
  rw [e]
  blk_simp [(idx t).2.2.2.2.2.2.2.2.2.2.1]
  pointwise
  rw [bit_pos]
  have e : ix2 (((View.whole main_v20).slice (win0_10.rect t)).emb (ix3 0 u 0) 0) (((View.whole main_v20).slice (win0_10.rect t)).emb (ix3 0 u 0) 1) = ix2 (bOf t h) (tOf t u) := by
    blk_ext [(idx t).2.2.2.2.2.2.2.2.2.2.1, bOf, tOf]
  exact congrArg (fun i => decide ((m ((c : Thread nD τ).loc main_arg10) : Vec Ideal S2x768 .i1) i ≠ (0#1 : BitVec 1))) e

end Cert.KernelIdeal.Run

end
-- ==== Proof.Values.lean ====
/- The kernel's blocks are the recurrence: the carried state before each token of a grid point, the state a point starts from and
   leaves, and the outputs it writes. -/
module

public import proofs.«01_k».proof.Proof.Blocks
public import proofs.«01_k».proof.Proof.Step

@[expose] public section

set_option maxRecDepth 16384

noncomputable section

namespace Cert.Math

/-- A step depends only on the entries of what it is given. -/
theorem step_congr {p p' : Bool} {k k' v v' w w' kk kk' b b' : Fin 64 → EReal} {s0 s0' s s' : Fin 64 → Fin 64 → EReal}
    (hp : p = p') (hk : ∀ j, k j = k' j) (hv : ∀ j, v j = v' j) (hw : ∀ j, w j = w' j) (hkk : ∀ j, kk j = kk' j)
    (hb : ∀ j, b j = b' j) (h0 : ∀ i j, s0 i j = s0' i j) (hs : ∀ i j, s i j = s' i j) (i j : Fin 64) :
    step p k v w kk b s0 s i j = step p' k' v' w' kk' b' s0' s' i j := by
  obtain rfl := hp
  obtain rfl := funext hk
  obtain rfl := funext hv
  obtain rfl := funext hw
  obtain rfl := funext hkk
  obtain rfl := funext hb
  obtain rfl := funext fun i => funext (h0 i)
  obtain rfl := funext fun i => funext (hs i)
  rfl

/-- An output row depends only on the entries of what it is given. -/
theorem out_congr {r r' : Fin 64 → EReal} {s s' : Fin 64 → Fin 64 → EReal} (hr : ∀ j, r j = r' j) (hs : ∀ i j, s i j = s' i j)
    (i : Fin 64) : out r s i = out r' s' i := by
  obtain rfl := funext hr
  obtain rfl := funext fun i => funext (hs i)
  rfl

end Cert.Math

namespace Cert.KernelIdeal.Run

open Idealize.ShloMosaic Idealize.ShloMosaic.TcCoe Idealize.SL.Sem
open Cert.KernelIdeal.Gen

variable (m : (ℓ : Loc nD τ sig) → Buf (Elt Ideal) ℓ) (c : Dev nD) (t : Fin cfg0.N)

/-- At each point and token the heads' new states are the recurrence's next states. -/
theorem tokS_next (k : Fin k0_t1_loop.trips) (S : Vec Ideal S8x64x64 .f32) (h : Fin 8) (i j : Fin 64) :
    tokS (iblk m c 9 t) (iblk m c 10 t) (prepQ (iblk m c 1 t) (iblk m c 4 t)) (prepQ (iblk m c 2 t) (iblk m c 5 t))
        (prepW (iblk m c 6 t)) (prepK (iblk m c 7 t)) (prepB (iblk m c 7 t) (iblk m c 8 t)) k S h (ix3 0 i j)
      = (inputs m c).next (bOf t h) (hOf t h) (tOf t (k.cast trips_eq)) (fun i j => S (ix3 h i j)) i j := by
  refine (tokS_at _ _ _ _ _ _ _ k S h i j).trans ?_
  exact Cert.Math.step_congr (iblk10_at m c t h (k.cast trips_eq))
    (fun j => (prepQ_at _ _ h (k.cast trips_eq) j).trans (congrArg₂ (fun a b : EReal => a * b) (iblk1_at m c t h _ j) (iblk4_at m c t h _)))
    (fun j => (prepQ_at _ _ h (k.cast trips_eq) j).trans (congrArg₂ (fun a b : EReal => a * b) (iblk2_at m c t h _ j) (iblk5_at m c t h _)))
    (fun j => (prepW_at _ h (k.cast trips_eq) j).trans (congrArg (fun a : EReal => Ideal.exp (0 - Ideal.exp a)) (iblk6_at m c t h _ j)))
    (fun j => (prepK_at _ h (k.cast trips_eq) j).trans (iblk7_at m c t h _ j))
    (fun j => (prepB_at _ _ h (k.cast trips_eq) j).trans (congrArg₂ (fun a b : EReal => a * b) (iblk7_at m c t h _ j) (iblk8_at m c t h _ j)))
    (fun i j => iblk9_at m c t h i j) (fun _ _ => rfl) i j

/-- From the recurrence's states at the point's first token, the carried state before its token `n` is the recurrence's. -/
theorem stBlk_at (S : Vec Ideal S8x64x64 .f32)
    (hS : ∀ h i j, S (ix3 h i j) = (inputs m c).state (bOf t h) (hOf t h) (t.val % 24 * 32) i j) :
    ∀ n ≤ 32, ∀ h i j, stBlk (iblk m c 1 t) (iblk m c 2 t) (iblk m c 4 t) (iblk m c 5 t) (iblk m c 6 t) (iblk m c 7 t)
        (iblk m c 8 t) (iblk m c 9 t) (iblk m c 10 t) S n (ix3 h i j)
      = (inputs m c).state (bOf t h) (hOf t h) (t.val % 24 * 32 + n) i j := by
  intro n
  induction n with
  | zero => intro _ h i j; exact hS h i j
  | succ n ih =>
    intro hn h i j
    have ih' := ih (Nat.le_of_succ_le hn)
    have hk : n < k0_t1_loop.trips := by rw [trips_eq]; omega
    unfold stBlk at ih' ⊢
    rw [stN_succ _ _ _ _ _ _ _ _ (⟨n, hk⟩ : Fin k0_t1_loop.trips)]
    refine (tokS_next m c t ⟨n, hk⟩ _ h i j).trans ?_
    refine Eq.trans ?_ (congrFun (congrFun ((inputs m c).state_succ (bOf t h) (hOf t h) (tOf t ⟨n, hn⟩)).symm i) j)
    exact congrArg (fun s => (inputs m c).next (bOf t h) (hOf t h) (tOf t ⟨n, hn⟩) s i j)
      (funext fun i => funext fun j => ih' h i j)

/-- Two points of one row of heads work on the same heads. -/
theorem bOf_prev (u : Fin cfg0.N) (hu : u.val / 24 = t.val / 24) (h : Fin 8) : bOf u h = bOf t h ∧ hOf u h = hOf t h := by
  unfold bOf hOf
  exact ⟨Fin.ext (by simp only [hu]), Fin.ext (by simp only [hu])⟩

/-- If the state a point starts from is the recurrence's, so is the state it leaves. -/
theorem sAt_of (hB : ∀ h i j, sBefore m c t (ix3 h i j) = (inputs m c).state (bOf t h) (hOf t h) (t.val % 24 * 32) i j)
    (h : Fin 8) (i j : Fin 64) :
    sAt m c t.val t.isLt (ix3 h i j) = (inputs m c).state (bOf t h) (hOf t h) (t.val % 24 * 32 + 32) i j := by
  rw [sAt_eq]
  unfold stepS sBlk
  rw [trips_eq]
  exact stBlk_at m c t _ hB 32 le_rfl h i j

/-- If the point before leaves the recurrence's state, a point starts from it. -/
theorem sBefore_of (hA : ¬t.val % 24 = 0 → ∀ h i j, sAt m c (t.val - 1) (lt_of_le_of_lt (Nat.sub_le _ _) t.isLt) (ix3 h i j)
      = (inputs m c).state (bOf t h) (hOf t h) ((t.val - 1) % 24 * 32 + 32) i j)
    (h : Fin 8) (i j : Fin 64) :
    sBefore m c t (ix3 h i j) = (inputs m c).state (bOf t h) (hOf t h) (t.val % 24 * 32) i j := by
  by_cases hz : t.val % 24 = 0
  · rw [sBefore_first m c t hz, hz]
    exact iblk9_at m c t h i j
  · rw [sBefore_next m c t hz]
    have e : (t.val - 1) % 24 * 32 + 32 = t.val % 24 * 32 := by omega
    exact (hA hz h i j).trans (congrArg (fun n => (inputs m c).state (bOf t h) (hOf t h) n i j) e)

/-- The state after point `n` is the recurrence's after the point's last token. -/
theorem sAt_at : ∀ (n : ℕ) (hn : n < cfg0.N) (h : Fin 8) (i j : Fin 64), sAt m c n hn (ix3 h i j)
    = (inputs m c).state (bOf ⟨n, hn⟩ h) (hOf ⟨n, hn⟩ h) (n % 24 * 32 + 32) i j := by
  intro n
  induction n with
  | zero => intro hn h i j; exact sAt_of m c ⟨0, hn⟩ (sBefore_of m c ⟨0, hn⟩ (fun hz => absurd (Nat.zero_mod 24) hz)) h i j
  | succ n ih =>
    intro hn h i j
    refine sAt_of m c ⟨n + 1, hn⟩ (sBefore_of m c ⟨n + 1, hn⟩ fun hz h i j => ?_) h i j
    have hz' : ¬(n + 1) % 24 = 0 := hz
    have e := bOf_prev ⟨n + 1, hn⟩ ⟨n, Nat.lt_of_succ_lt hn⟩ (by show n / 24 = (n + 1) / 24; omega) h
    exact (ih (Nat.lt_of_succ_lt hn) h i j).trans
      (congrArg₂ (fun b h => (inputs m c).state b h (n % 24 * 32 + 32) i j) e.1 e.2)

/-- The state point `t` starts from is the recurrence's before the point's first token. -/
theorem sBefore_at (h : Fin 8) (i j : Fin 64) : sBefore m c t (ix3 h i j)
    = (inputs m c).state (bOf t h) (hOf t h) (t.val % 24 * 32) i j := by
  refine sBefore_of m c t (fun hz h i j => ?_) h i j
  have lt : t.val - 1 < cfg0.N := lt_of_le_of_lt (Nat.sub_le _ _) t.isLt
  have e := bOf_prev t ⟨t.val - 1, lt⟩ (by show (t.val - 1) / 24 = t.val / 24; omega) h
  exact (sAt_at m c (t.val - 1) lt h i j).trans
    (congrArg₂ (fun b h => (inputs m c).state b h ((t.val - 1) % 24 * 32 + 32) i j) e.1 e.2)

/-- The outputs of point `t` are the recurrence's. -/
theorem yAt_at (h : Fin 8) (u : Fin 32) (i : Fin 64) : yAt m c t (ix3 h u i)
    = (inputs m c).y (bOf t h) (hOf t h) (tOf t u) i := by
  unfold yAt yBlk
  pointwise [k0_pay2]
  unfold yRaw
  refine (tokY_at _ _ _ _ _ _ _ _ (u.cast trips_eq.symm) _ h i).trans ?_
  refine Cert.Math.out_congr (fun j => (prepQ_at _ _ h u j).trans
      (congrArg₂ (fun a b : EReal => a * b) (iblk0_at m c t h u j) (iblk3_at m c t h u))) (fun i j => ?_) i
  refine (tokS_next m c t (u.cast trips_eq.symm) _ h i j).trans ?_
  refine Eq.trans ?_ (congrFun (congrFun ((inputs m c).state_succ (bOf t h) (hOf t h) (tOf t u)).symm i) j)
  exact congrArg (fun s => (inputs m c).next (bOf t h) (hOf t h) (tOf t u) s i j)
    (funext fun i => funext fun j => stBlk_at m c t _ (sBefore_at m c t) u.val u.isLt.le h i j)

end Cert.KernelIdeal.Run

end
-- ==== Proof.Arrays.lean ====
/- The kernel's result arrays are the recurrence's outputs and last states. -/
module

public import proofs.«01_k».proof.Proof.Values

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (c : Dev nD)

/-- The batch row of member `a` of the 32 heads. -/
def bIx (a : Fin 32) : Fin 2 := ⟨a.val / 16, by omega⟩

/-- The number in its batch row of member `a` of the 32 heads. -/
def hIx (a : Fin 32) : Fin 16 := ⟨a.val % 16, by omega⟩

/-- The launch's output array: the recurrence's outputs, head by head. -/
def G11 : Vec Ideal S32x768x64 .bf16 := fun y => (inputs m c).y (bIx (y 0)) (hIx (y 0)) (y 1) (y 2)

/-- The launch's state array: the recurrence's last states, head by head. -/
def G12 : Vec Ideal S32x64x64 .f32 := fun y => (inputs m c).state (bIx (y 0)) (hIx (y 0)) 768 (y 1) (y 2)

/-- An entry of the output array. -/
theorem G11_at (a : Fin 32) (t : Fin 768) (i : Fin 64) : G11 m c (ix3 a t i) = (inputs m c).y (bIx a) (hIx a) t i := rfl

/-- An entry of the state array. -/
theorem G12_at (a : Fin 32) (i j : Fin 64) : G12 m c (ix3 a i j) = (inputs m c).state (bIx a) (hIx a) 768 i j := rfl

/-- The member of the 32 heads that is head `h` of point `t`. -/
def aOf (t : Fin cfg0.N) (h : Fin 8) : Fin 32 := ⟨t.val / 24 * 8 + h.val, by
  have := (show t.val < 96 from t.isLt); have := h.isLt; omega⟩

/-- Where an entry of point `t`'s output block lies in the output array. -/
theorem emb11 (t : Fin cfg0.N) (h : Fin 8) (u : Fin 32) (i : Fin 64) :
    ((View.whole main_v21_0).slice (win0_11.rect t)).emb (ix3 h u i) = ix3 (aOf t h) (tOf t u) i := by
  blk_ext [(idx t).2.2.2.2.2.2.2.2.2.2.2.1, tOf, aOf]

/-- Where an entry of point `t`'s state block lies in the state array. -/
theorem emb12 (t : Fin cfg0.N) (h : Fin 8) (i j : Fin 64) :
    ((View.whole main_v21_1).slice (win0_12.rect t)).emb (ix3 h i j) = ix3 (aOf t h) i j := by
  blk_ext [(idx t).2.2.2.2.2.2.2.2.2.2.2.2, aOf]

/-- What point `t` writes of the outputs is its part of the output array. -/
theorem yAt_G11 (t : Fin cfg0.N) (h : Fin 8) (u : Fin 32) (i : Fin 64) :
    yAt m c t (ix3 h u i) = G11 m c (ix3 (aOf t h) (tOf t u) i) :=
  (yAt_at m c t h u i).trans (G11_at m c (aOf t h) (tOf t u) i).symm

/-- What a row's last point writes of the states is its part of the state array. -/
theorem sAt_G12 (t : Fin cfg0.N) (hl : t.val % 24 = 23) (h : Fin 8) (i j : Fin 64) :
    sAt m c t.val t.isLt (ix3 h i j) = G12 m c (ix3 (aOf t h) i j) := by
  refine ((sAt_at m c t.val t.isLt h i j).trans ?_).trans (G12_at m c (aOf t h) i j).symm
  have e : t.val % 24 * 32 + 32 = 768 := by omega
  rw [e]
  rfl

/-- The output array is written block by block with the recurrence's outputs. -/
theorem arr11 : (dats m 0 c).arrAt 11 cfg0.N = G11 m c := by
  refine (dats m 0 c).arrAt_eq_of_covers 11 (G11 m c) (by decide +kernel) fun t hf y => ?_
  blk_simp
  rw [after0_11]
  idx_vars y
  exact (yAt_G11 m c t y0 y1 y2).trans (congrArg (G11 m c) (emb11 t y0 y1 y2).symm)

/-- The state array is written at each row's last point with the recurrence's last states. -/
theorem arr12 : (dats m 0 c).arrAt 12 cfg0.N = G12 m c := by
  refine (dats m 0 c).arrAt_eq_of_covers 12 (G12 m c) (by decide +kernel) fun t hf y => ?_
  have hl : t.val % 24 = 23 := (flush0_12 t).mp hf
  blk_simp
  rw [after0_12]
  idx_vars y
  exact (sAt_G12 m c t hl y0 y1 y2).trans (congrArg (G12 m c) (emb12 t y0 y1 y2).symm)

/-- The windows' arrays are distinct. -/
theorem arr_inj : Function.Injective (Pipeline.arrRef spec0) := by decide +kernel

/-- After the launch the host splits the 32 heads of the outputs and puts tokens before heads. -/
theorem tail_v23 : Pipeline.afterTail₀ cfgs (dats m) 0 (V0 m) [hostOps1] c main_v23
    = transpose S2x768x16x64 [0, 2, 1, 3] (shapeCast S2x16x768x64 (G11 m c) shapeCasts_S32x768x64_S2x16x768x64)
        transposes_S2x16x768x64_S2x768x16x64_0_2_1_3 := by
  rw [← arr11 m c, ← Pipeline.withArrays_arr spec0 arr_inj c (V0 m c) (fun w => (dats m 0 c).arrAt w cfg0.N) 11]
  rfl

/-- After the launch the host splits the 32 heads of the last states. -/
theorem tail_v24 : Pipeline.afterTail₀ cfgs (dats m) 0 (V0 m) [hostOps1] c main_v24
    = shapeCast S2x16x64x64 (G12 m c) shapeCasts_S32x64x64_S2x16x64x64 := by
  rw [← arr12 m c, ← Pipeline.withArrays_arr spec0 arr_inj c (V0 m c) (fun w => (dats m 0 c).arrAt w cfg0.N) 12]
  rfl

/-- Head `h` of batch row `b` among the 32. -/
theorem split_ix (b : Fin 2) (h : Fin 16) (n : b.val * 16 + h.val < 32) :
    bIx ⟨b.val * 16 + h.val, n⟩ = b ∧ hIx ⟨b.val * 16 + h.val, n⟩ = h := by
  have := h.isLt
  exact ⟨Fin.ext (by show (b.val * 16 + h.val) / 16 = b.val; omega), Fin.ext (by show (b.val * 16 + h.val) % 16 = h.val; omega)⟩

/-- The kernel's first result: the recurrence's outputs. -/
theorem v23_at (b : Fin 2) (t : Fin 768) (h : Fin 16) (i : Fin 64) :
    (Pipeline.afterTail₀ cfgs (dats m) 0 (V0 m) [hostOps1] c main_v23 : Vec Ideal S2x768x16x64 .bf16) (ix4 b t h i)
      = (inputs m c).y b h t i := by
  rw [tail_v23]
  pointwise
  rw [G11_at, (split_ix b h _).1, (split_ix b h _).2]

/-- The kernel's second result: the recurrence's last states. -/
theorem v24_at (b : Fin 2) (h : Fin 16) (i j : Fin 64) :
    (Pipeline.afterTail₀ cfgs (dats m) 0 (V0 m) [hostOps1] c main_v24 : Vec Ideal S2x16x64x64 .f32) (ix4 b h i j)
      = (inputs m c).state b h 768 i j := by
  rw [tail_v24]
  pointwise
  rw [G12_at, (split_ix b h _).1, (split_ix b h _).2]

end Cert.KernelIdeal.Run

end
-- ==== Proof.Results.lean ====
/- The kernel's run, stated as one fact: what its two results hold at the end, and its arguments unchanged. -/
module

public import proofs.«01_k».proof.Proof.Arrays

@[expose] public section

set_option maxRecDepth 16384

noncomputable section

namespace Cert.KernelIdeal.Run

open Idealize.ShloMosaic Idealize.ShloMosaic.TcCoe Idealize.SL.Sem
open Cert.KernelIdeal.Gen

variable (m : (ℓ : Loc nD τ sig) → Buf (Elt Ideal) ℓ) (ρ : Dev nD → PrngReg)

/-- What the kernel's first result holds at the end of a run. -/
def res0 (c : Dev nD) : Buf (Elt Ideal) ((c.tc : Thread nD τ).loc main_v23) :=
  Pipeline.afterTail₀ cfgs (dats m) 0 (V0 m) [hostOps1] c main_v23

/-- What the kernel's second result holds at the end of a run. -/
def res1 (c : Dev nD) : Buf (Elt Ideal) ((c.tc : Thread nD τ).loc main_v24) :=
  Pipeline.afterTail₀ cfgs (dats m) 0 (V0 m) [hostOps1] c main_v24

/-- Every fair run ends with the results as named and the arguments unchanged. -/
theorem results : θ_run defs (onTc (τ := τ) (main (F := Ideal))) ⟨m, fun _ => 0, ρ⟩ (fun r => ∀ c : Dev nD,
      r.2.mem ((c.tc : Thread nD τ).loc main_v23) = res0 m c
      ∧ r.2.mem ((c.tc : Thread nD τ).loc main_v24) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h.1 c).2 main_v23 (Pipeline.mem_restRefs_of main_v23 (by decide) (by decide)),
        (h.1 c).2 main_v24 (Pipeline.mem_restRefs_of main_v24 (by decide) (by decide)), h.2.1 c⟩)
    (θ_run_and (run_main m ρ) (frame m ρ))

end Cert.KernelIdeal.Run

end
-- ==== Proof.RefTrip.lean ====
/- What the reference's token loop carries and writes, entry by entry of the arrays it reads: one trip's new state and output row,
   and the loop after any number of trips. -/
module

public import proofs.«01_k».proof.Proof.Gen.ReferenceIdeal.Frame
public import Idealize.ShloMosaic.Lib.WritesUnit
public import Idealize.ShloMosaic.Lib.VecWindow
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic
open Idealize.SL.Sem
open Cert.ReferenceIdeal.Gen

variable {F : FTy → Type} [FloatOps F]

/-- The loop runs over the 768 tokens. -/
theorem trips_eq : k0_t1_loop.trips = 768 := by decide +kernel

/-- Trip `k` reads and writes the rows of token `k`. -/
theorem off1_eq : ∀ k : Fin k0_t1_loop.trips, k0_off1 k = ![0, k.val, 0, 0] := by decide +kernel

/-- Trip `k` reads the scales of token `k`. -/
theorem off2_eq : ∀ k : Fin k0_t1_loop.trips, k0_off2 k = ![0, k.val, 0] := by decide +kernel

/-- Trip `k` reads the flags of token `k`. -/
theorem off3_eq : ∀ k : Fin k0_t1_loop.trips, k0_off3 k = ![0, k.val] := by decide +kernel

/-- Token `k`'s rows of an array. -/
def row4 {e : EltTy} (x : Vec F S2x768x16x64 e) (k : Fin k0_t1_loop.trips) : Vec F S2x1x16x64 e :=
  fun y => x (ix4 (y 0) (k.cast trips_eq) (y 2) (y 3))

/-- Token `k`'s scales. -/
def row3 (x : Vec F S2x768x16 .f32) (k : Fin k0_t1_loop.trips) : Vec F S2x1x16 .f32 :=
  fun y => x (ix3 (y 0) (k.cast trips_eq) (y 2))

/-- Token `k`'s flags. -/
def row2 (x : Vec F S2x768 .i32) (k : Fin k0_t1_loop.trips) : Vec F S2x1 .i32 :=
  fun y => x (ix2 (y 0) (k.cast trips_eq))

/-- A load of trip `k`'s rows reads token `k`'s rows. -/
theorem readAt_row4 {e : EltTy} (v : View sig .tc .vmem S2x768x16x64 e) (f : v.ty.Contents (Elt F)) (k : Fin k0_t1_loop.trips) :
    v.readAt (Elt F) (Rect.unit (s := S2x768x16x64) (k0_off1 k) S2x1x16x64.size (k0_off1_inb k)).toLoadRect f = row4 (v.read (Elt F) f) k := by
  refine (View.readAt_unit v f (k0_off1_inb k) (off1_eq k) (off1_eq k ▸ k0_off1_inb k)).trans ?_
  funext y
  idx_vars y
  unfold VecWindow.window row4
  blk_ext []
  rfl

/-- A load of trip `k`'s scales reads token `k`'s scales. -/
theorem readAt_row3 (v : View sig .tc .vmem S2x768x16 .f32) (f : v.ty.Contents (Elt F)) (k : Fin k0_t1_loop.trips) :
    v.readAt (Elt F) (Rect.unit (s := S2x768x16) (k0_off2 k) S2x1x16.size (k0_off2_inb k)).toLoadRect f = row3 (v.read (Elt F) f) k := by
  refine (View.readAt_unit v f (k0_off2_inb k) (off2_eq k) (off2_eq k ▸ k0_off2_inb k)).trans ?_
  funext y
  idx_vars y
  unfold VecWindow.window row3
  blk_ext []
  rfl

/-- A load of trip `k`'s flags reads token `k`'s flags. -/
theorem readAt_row2 (v : View sig .tc .vmem S2x768 .i32) (f : v.ty.Contents (Elt F)) (k : Fin k0_t1_loop.trips) :
    v.readAt (Elt F) (Rect.unit (s := S2x768) (k0_off3 k) S2x1.size (k0_off3_inb k)).toLoadRect f = row2 (v.read (Elt F) f) k := by
  refine (View.readAt_unit v f (k0_off3_inb k) (off3_eq k) (off3_eq k ▸ k0_off3_inb k)).trans ?_
  funext y
  idx_vars y
  unfold VecWindow.window row2
  blk_ext []
  rfl

/-- The state after token `k`, from the arrays, the given state `v0` and the state `S` before it. -/
def tokS (x1 x2 : Vec F S2x768x16x64 .fp8e4m3) (x4 x5 : Vec F S2x768x16 .f32) (x6 x7 x8 : Vec F S2x768x16x64 .bf16) (x10 : Vec F S2x768 .i32)
    (v0 : Vec F S2x16x64x64 .f32) (k : Fin k0_t1_loop.trips) (S : Vec F S2x16x64x64 .f32) : Vec F S2x16x64x64 .f32 :=
  k0_pay5 v0 S (k0_pay2 (row4 x1 k) (row3 x4 k)) (k0_pay3 (row4 x2 k) (row3 x5 k)) (k0_pay4 (row4 x6 k)) (row4 x7 k) (row4 x8 k) (row2 x10 k)

/-- The output row of token `k`, from the same and the queries. -/
def tokY (x0 x1 x2 : Vec F S2x768x16x64 .fp8e4m3) (x3 x4 x5 : Vec F S2x768x16 .f32) (x6 x7 x8 : Vec F S2x768x16x64 .bf16) (x10 : Vec F S2x768 .i32)
    (v0 : Vec F S2x16x64x64 .f32) (k : Fin k0_t1_loop.trips) (S : Vec F S2x16x64x64 .f32) : Vec F S2x1x16x64 .bf16 :=
  k0_pay6 v0 S (k0_pay1 (row4 x0 k) (row3 x3 k)) (k0_pay2 (row4 x1 k) (row3 x4 k)) (k0_pay3 (row4 x2 k) (row3 x5 k)) (k0_pay4 (row4 x6 k))
    (row4 x7 k) (row4 x8 k) (row2 x10 k)

section Loop

variable (𝒱 : Variants) (c : Dev nD) (bd : Option 𝒱.V) (arg0 : Memref sig .tc .vmem S2x768x16x64 .fp8e4m3) (harg0 : arg0.IsWhole) (arg1 : Memref sig .tc .vmem S2x768x16x64 .fp8e4m3) (harg1 : arg1.IsWhole) (arg2 : Memref sig .tc .vmem S2x768x16x64 .fp8e4m3) (harg2 : arg2.IsWhole) (arg3 : Memref sig .tc .vmem S2x768x16 .f32) (harg3 : arg3.IsWhole) (arg4 : Memref sig .tc .vmem S2x768x16 .f32) (harg4 : arg4.IsWhole) (arg5 : Memref sig .tc .vmem S2x768x16 .f32) (harg5 : arg5.IsWhole) (arg6 : Memref sig .tc .vmem S2x768x16x64 .bf16) (harg6 : arg6.IsWhole) (arg7 : Memref sig .tc .vmem S2x768x16x64 .bf16) (harg7 : arg7.IsWhole) (arg8 : Memref sig .tc .vmem S2x768x16x64 .bf16) (harg8 : arg8.IsWhole) (arg9 : Memref sig .tc .vmem S2x16x64x64 .f32) (harg9 : arg9.IsWhole) (arg10 : Memref sig .tc .vmem S2x768 .i32) (harg10 : arg10.IsWhole) (arg11 : Memref sig .tc .vmem S2x768x16x64 .bf16) (harg11 : arg11.IsWhole) (arg12 : Memref sig .tc .vmem S2x16x64x64 .f32) (harg12 : arg12.IsWhole) (v0 : Vec F S2x16x64x64 .f32) (X_arg0 : BufTy.Contents (Elt F) arg0.view.ty) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg10 : BufTy.Contents (Elt F) arg10.view.ty)

/-- One trip's new state. -/
theorem trip_state (k : Fin k0_t1_loop.trips) (S : Vec F S2x16x64x64 .f32) :
    (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 k).1 S
      = tokS (arg1.view.read (Elt F) X_arg1) (arg2.view.read (Elt F) X_arg2) (arg4.view.read (Elt F) X_arg4) (arg5.view.read (Elt F) X_arg5) (arg6.view.read (Elt F) X_arg6) (arg7.view.read (Elt F) X_arg7) (arg8.view.read (Elt F) X_arg8) (arg10.view.read (Elt F) X_arg10) v0 k S := by
  unfold tokS
  simp only [← readAt_row4, ← readAt_row3, ← readAt_row2]
  unfold trip_k0_t1
  rfl

/-- One trip's write: the token's output row. -/
theorem trip_out (k : Fin k0_t1_loop.trips) (S : Vec F S2x16x64x64 .f32) :
    (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 k).2.1 S
      = [(⟨Rect.unit (s := S2x768x16x64) (k0_off1 k) S2x1x16x64.size (k0_off1_inb k),
          tokY (arg0.view.read (Elt F) X_arg0) (arg1.view.read (Elt F) X_arg1) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg10.view.read (Elt F) X_arg10) v0 k S⟩ : View.Piece (Elt F) S2x768x16x64 .bf16)] := by
  unfold tokY
  simp only [← readAt_row4, ← readAt_row3, ← readAt_row2]
  unfold trip_k0_t1
  rfl

end Loop

end Cert.ReferenceIdeal.Run

end
-- ==== Proof.RefVal.lean ====
/- One token of the reference is the recurrence's step, entry by entry. -/
module

public import proofs.«01_k».proof.Proof.RefTrip
public import proofs.«01_k».proof.Proof.Step

@[expose] public section

set_option maxRecDepth 16384

noncomputable section

namespace Cert.ReferenceIdeal.Run

open Idealize.ShloMosaic Idealize.ShloMosaic.TcCoe
open Cert.ReferenceIdeal.Gen

/-- The inputs of the recurrence, read off the arrays the reference's body finds. -/
def inputsOf (x0 x1 x2 : Vec Ideal S2x768x16x64 .fp8e4m3) (x3 x4 x5 : Vec Ideal S2x768x16 .f32) (x6 x7 x8 : Vec Ideal S2x768x16x64 .bf16)
    (x9 : Vec Ideal S2x16x64x64 .f32) (x10 : Vec Ideal S2x768 .i32) : Cert.Math.Inputs where
  r b t h j := x0 (ix4 b t h j)
  k b t h j := x1 (ix4 b t h j)
  v b t h j := x2 (ix4 b t h j)
  rs b t h := x3 (ix3 b t h)
  ks b t h := x4 (ix3 b t h)
  vs b t h := x5 (ix3 b t h)
  wl b t h j := x6 (ix4 b t h j)
  kk b t h j := x7 (ix4 b t h j)
  ic b t h j := x8 (ix4 b t h j)
  s0 b h i j := x9 (ix4 b h i j)
  seg b t := decide (x10 (ix2 b t) ≠ (0#32 : BitVec 32))

variable (x0 x1 x2 : Vec Ideal S2x768x16x64 .fp8e4m3) (x3 x4 x5 : Vec Ideal S2x768x16 .f32) (x6 x7 x8 : Vec Ideal S2x768x16x64 .bf16)
    (x9 : Vec Ideal S2x16x64x64 .f32) (x10 : Vec Ideal S2x768 .i32)

/-- Choosing by whether a word is nonzero. -/
theorem select_ne (a : BitVec 32) (x y : EReal) :
    Scalar.select (IntOp.cmpi .ne a 0#32) x y = if decide (a ≠ 0#32) = true then x else y := by
  by_cases h : a = 0#32
  · simp [Scalar.select, IntOp.cmpi, h]
  · have e : (a != 0#32) = true := bne_iff_ne.mpr h
    simp [Scalar.select, IntOp.cmpi, h, e]

/-- The new state of a token is the recurrence's. -/
theorem tokS_at (k : Fin k0_t1_loop.trips) (S : Vec Ideal S2x16x64x64 .f32) (b : Fin 2) (h : Fin 16) (i j : Fin 64) :
    tokS x1 x2 x4 x5 x6 x7 x8 x10 x9 k S (ix4 b h i j)
      = (inputsOf x0 x1 x2 x3 x4 x5 x6 x7 x8 x9 x10).next b h (k.cast trips_eq) (fun i j => S (ix4 b h i j)) i j := by
  unfold tokS Cert.Math.Inputs.next inputsOf
  pointwise [k0_pay5, k0_pay2, k0_pay3, k0_pay4, row4, row3, row2, Cert.Math.step]
  simp only [select_ne]
  rfl

/-- The output row of a token is the recurrence's, of its new state. -/
theorem tokY_at (k : Fin k0_t1_loop.trips) (S : Vec Ideal S2x16x64x64 .f32) (b : Fin 2) (h : Fin 16) (i : Fin 64) :
    tokY x0 x1 x2 x3 x4 x5 x6 x7 x8 x10 x9 k S (ix4 b 0 h i)
      = Cert.Math.out (fun j => (inputsOf x0 x1 x2 x3 x4 x5 x6 x7 x8 x9 x10).r b (k.cast trips_eq) h j
            * (inputsOf x0 x1 x2 x3 x4 x5 x6 x7 x8 x9 x10).rs b (k.cast trips_eq) h)
          (fun i j => tokS x1 x2 x4 x5 x6 x7 x8 x10 x9 k S (ix4 b h i j)) i := by
  unfold tokY tokS inputsOf
  pointwise [k0_pay6, k0_pay1, row4, row3, Cert.Math.out]

end Cert.ReferenceIdeal.Run

end
-- ==== Proof.RefLoop.lean ====
/- The reference's token loop: before any token the carried state is the recurrence's, and the rows written so far are its outputs. -/
module

public import proofs.«01_k».proof.Proof.RefVal

@[expose] public section

set_option maxRecDepth 16384

noncomputable section

namespace Cert.ReferenceIdeal.Run

open Idealize.ShloMosaic Idealize.ShloMosaic.TcCoe Idealize.ShloMosaic.Tactic
open Idealize.SL.Sem
open Cert.ReferenceIdeal.Gen

variable (𝒱 : Variants) (c : Dev nD) (bd : Option 𝒱.V) (arg0 : Memref sig .tc .vmem S2x768x16x64 .fp8e4m3) (harg0 : arg0.IsWhole) (arg1 : Memref sig .tc .vmem S2x768x16x64 .fp8e4m3) (harg1 : arg1.IsWhole) (arg2 : Memref sig .tc .vmem S2x768x16x64 .fp8e4m3) (harg2 : arg2.IsWhole) (arg3 : Memref sig .tc .vmem S2x768x16 .f32) (harg3 : arg3.IsWhole) (arg4 : Memref sig .tc .vmem S2x768x16 .f32) (harg4 : arg4.IsWhole) (arg5 : Memref sig .tc .vmem S2x768x16 .f32) (harg5 : arg5.IsWhole) (arg6 : Memref sig .tc .vmem S2x768x16x64 .bf16) (harg6 : arg6.IsWhole) (arg7 : Memref sig .tc .vmem S2x768x16x64 .bf16) (harg7 : arg7.IsWhole) (arg8 : Memref sig .tc .vmem S2x768x16x64 .bf16) (harg8 : arg8.IsWhole) (arg9 : Memref sig .tc .vmem S2x16x64x64 .f32) (harg9 : arg9.IsWhole) (arg10 : Memref sig .tc .vmem S2x768 .i32) (harg10 : arg10.IsWhole) (arg11 : Memref sig .tc .vmem S2x768x16x64 .bf16) (harg11 : arg11.IsWhole) (arg12 : Memref sig .tc .vmem S2x16x64x64 .f32) (harg12 : arg12.IsWhole) (v0 : Vec Ideal S2x16x64x64 .f32) (X_arg0 : BufTy.Contents (Elt Ideal) arg0.view.ty) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg10 : BufTy.Contents (Elt Ideal) arg10.view.ty)

/-- The state carried before token `n` is the recurrence's. -/
theorem loop_state : ∀ n ≤ 768, ∀ (b : Fin 2) (h : Fin 16) (i j : Fin 64),
    (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 v0 n).1 (ix4 b h i j)
      = (inputsOf (arg0.view.read (Elt Ideal) X_arg0) (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 (arg10.view.read (Elt Ideal) X_arg10)).state b h n i j := by
  intro n
  induction n with
  | zero => intro _ b h i j; rfl
  | succ n ih =>
    intro hn b h i j
    have hk : n < k0_t1_loop.trips := by rw [trips_eq]; exact hn
    have e := congrArg Prod.fst (st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 v0 ⟨n, hk⟩)
    refine (congrFun e (ix4 b h i j)).trans ?_
    refine (congrFun (trip_state 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 ⟨n, hk⟩ _) (ix4 b h i j)).trans ?_
    refine (tokS_at (arg0.view.read (Elt Ideal) X_arg0) (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 (arg10.view.read (Elt Ideal) X_arg10) ⟨n, hk⟩ _ b h i j).trans ?_
    refine Eq.trans ?_ (congrFun (congrFun ((inputsOf (arg0.view.read (Elt Ideal) X_arg0) (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 (arg10.view.read (Elt Ideal) X_arg10)).state_succ b h ⟨n, hn⟩).symm i) j)
    exact congrArg (fun s => (inputsOf (arg0.view.read (Elt Ideal) X_arg0) (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 (arg10.view.read (Elt Ideal) X_arg10)).next b h ⟨n, hn⟩ s i j)
      (funext fun i => funext fun j => ih (Nat.le_of_succ_le hn) b h i j)

/-- After the first `n` trips the rows of the tokens before `n` are the recurrence's outputs. -/
theorem loop_out (v : View sig .tc .vmem S2x768x16x64 .bf16) (g : v.ty.Contents (Elt Ideal)) :
    ∀ n ≤ 768, ∀ (b : Fin 2) (t : Fin 768) (h : Fin 16) (i : Fin 64), t.val < n →
      v.read (Elt Ideal) (v.writes (Elt Ideal) g (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 v0 n).2) (ix4 b t h i)
        = (inputsOf (arg0.view.read (Elt Ideal) X_arg0) (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 (arg10.view.read (Elt Ideal) X_arg10)).y b h t i := by
  intro n
  induction n with
  | zero => intro _ b t h i ht; exact absurd ht (Nat.not_lt_zero _)
  | succ n ih =>
    intro hn b t h i ht
    have hk : n < k0_t1_loop.trips := by rw [trips_eq]; exact hn
    have e : (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 v0 (n + 1)).2 = _ :=
      congrArg Prod.snd (st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 v0 ⟨n, hk⟩)
    rw [e]
    show v.read (Elt Ideal) (v.writes (Elt Ideal) g ((trip_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 ⟨n, hk⟩).2.1 _ ++ _)) (ix4 b t h i) = _
    rw [trip_out]
    rcases Nat.lt_or_ge t.val n with hlt | hge
    · refine (View.read_writes_cons_unit_of_not_mem v g (k0_off1_inb _) _ _ (ix4 b t h i) (off1_eq ⟨n, hk⟩) (1 : Fin 4) (Or.inl hlt)).trans ?_
      exact ih (Nat.le_of_succ_le hn) b t h i hlt
    · obtain rfl : t = ⟨n, hn⟩ := Fin.ext (by show t.val = n; omega)
      refine (View.read_writes_cons_unit_of_mem v g (k0_off1_inb _) _ _ (ix4 b ⟨n, hn⟩ h i) (ix4 b 0 h i) (off1_eq ⟨n, hk⟩) ?_).trans ?_
      · intro a; fin_cases a
        · exact (Nat.zero_add _).symm
        · exact (Nat.add_zero _).symm
        · exact (Nat.zero_add _).symm
        · exact (Nat.zero_add _).symm
      · refine (tokY_at (arg0.view.read (Elt Ideal) X_arg0) (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) v0 (arg10.view.read (Elt Ideal) X_arg10) ⟨n, hk⟩ _ b h i).trans ?_
        have e' := funext fun i => funext fun j => loop_state 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 (n + 1) hn b h i j
        have e1 := congrArg Prod.fst (st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 v0 ⟨n, hk⟩)
        have e2 := fun i j => (congrFun e1 (ix4 b h i j)).trans (congrFun (trip_state 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 X_arg10 ⟨n, hk⟩ _) (ix4 b h i j))
        exact congrArg (fun s => Cert.Math.out _ s i) (funext fun i => funext fun j => (e2 i j).symm.trans (congrFun (congrFun e' i) j))

end Cert.ReferenceIdeal.Run

end
-- ==== Proof.RefBody.lean ====
/- What the reference's body leaves in its two outputs, from what it finds in its inputs. -/
module

public import proofs.«01_k».proof.Proof.RefLoop

@[expose] public section

set_option maxRecDepth 16384

noncomputable section

namespace Cert.ReferenceIdeal.Run

open Idealize.ShloMosaic Idealize.ShloMosaic.TcCoe
open Idealize.SL.Sem
open Idealize.ShloMosaic.Pipeline (Dat)
open Cert.ReferenceIdeal.Gen

variable (c : Dev nD)

section Body

variable (arg0 : Memref sig .tc .vmem S2x768x16x64 .fp8e4m3) (harg0 : arg0.IsWhole) (arg1 : Memref sig .tc .vmem S2x768x16x64 .fp8e4m3) (harg1 : arg1.IsWhole) (arg2 : Memref sig .tc .vmem S2x768x16x64 .fp8e4m3) (harg2 : arg2.IsWhole) (arg3 : Memref sig .tc .vmem S2x768x16 .f32) (harg3 : arg3.IsWhole) (arg4 : Memref sig .tc .vmem S2x768x16 .f32) (harg4 : arg4.IsWhole) (arg5 : Memref sig .tc .vmem S2x768x16 .f32) (harg5 : arg5.IsWhole) (arg6 : Memref sig .tc .vmem S2x768x16x64 .bf16) (harg6 : arg6.IsWhole) (arg7 : Memref sig .tc .vmem S2x768x16x64 .bf16) (harg7 : arg7.IsWhole) (arg8 : Memref sig .tc .vmem S2x768x16x64 .bf16) (harg8 : arg8.IsWhole) (arg9 : Memref sig .tc .vmem S2x16x64x64 .f32) (harg9 : arg9.IsWhole) (arg10 : Memref sig .tc .vmem S2x768 .i32) (harg10 : arg10.IsWhole) (arg11 : Memref sig .tc .vmem S2x768x16x64 .bf16) (harg11 : arg11.IsWhole) (arg12 : Memref sig .tc .vmem S2x16x64x64 .f32) (harg12 : arg12.IsWhole)
  (x0 : Vec Ideal S2x768x16x64 .fp8e4m3) (x1 : Vec Ideal S2x768x16x64 .fp8e4m3) (x2 : Vec Ideal S2x768x16x64 .fp8e4m3) (x3 : Vec Ideal S2x768x16 .f32) (x4 : Vec Ideal S2x768x16 .f32) (x5 : Vec Ideal S2x768x16 .f32) (x6 : Vec Ideal S2x768x16x64 .bf16) (x7 : Vec Ideal S2x768x16x64 .bf16) (x8 : Vec Ideal S2x768x16x64 .bf16) (x9 : Vec Ideal S2x16x64x64 .f32) (x10 : Vec Ideal S2x768 .i32)

/-- A load of the whole given state reads it. -/
theorem load_state : arg9.view.readAt (Elt Ideal) (Rect.unit (s := S2x16x64x64) ![0, 0, 0, 0] S2x16x64x64.size
    inb_S2x16x64x64_S2x16x64x64_0_0_0_0).toLoadRect (harg9.unread x9) = x9 :=
  (View.readAt_full arg9.view _ inb_S2x16x64x64_S2x16x64x64_0_0_0_0).trans (harg9.read_unread x9)

/-- What the body leaves in its first output, from what it finds in its inputs. -/
theorem body11_at (b : Fin 2) (k : Fin 768) (h : Fin 16) (i : Fin 64) :
    out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix4 b k h i) = (inputsOf x0 x1 x2 x3 x4 x5 x6 x7 x8 x9 x10).y b h k i := by
  have h0 : arg0.view.read (Elt Ideal) (harg0.unread x0) = x0 := harg0.read_unread x0
  have h1 : arg1.view.read (Elt Ideal) (harg1.unread x1) = x1 := harg1.read_unread x1
  have h2 : arg2.view.read (Elt Ideal) (harg2.unread x2) = x2 := harg2.read_unread x2
  have h3 : arg3.view.read (Elt Ideal) (harg3.unread x3) = x3 := harg3.read_unread x3
  have h4 : arg4.view.read (Elt Ideal) (harg4.unread x4) = x4 := harg4.read_unread x4
  have h5 : arg5.view.read (Elt Ideal) (harg5.unread x5) = x5 := harg5.read_unread x5
  have h6 : arg6.view.read (Elt Ideal) (harg6.unread x6) = x6 := harg6.read_unread x6
  have h7 : arg7.view.read (Elt Ideal) (harg7.unread x7) = x7 := harg7.read_unread x7
  have h8 : arg8.view.read (Elt Ideal) (harg8.unread x8) = x8 := harg8.read_unread x8
  have h9 : arg9.view.read (Elt Ideal) (harg9.unread x9) = x9 := harg9.read_unread x9
  have h10 : arg10.view.read (Elt Ideal) (harg10.unread x10) = x10 := harg10.read_unread x10
  have e := loop_out Variants.none c none arg0 harg0 arg1 harg1 arg2 harg2 arg3 harg3 arg4 harg4 arg5 harg5 arg6 harg6 arg7 harg7 arg8 harg8 arg9 harg9 arg10 harg10 arg11 harg11 arg12 harg12
    (arg9.view.readAt (Elt Ideal) (Rect.unit (s := S2x16x64x64) ![0, 0, 0, 0] S2x16x64x64.size inb_S2x16x64x64_S2x16x64x64_0_0_0_0).toLoadRect (harg9.unread x9))
    (harg0.unread x0) (harg1.unread x1) (harg2.unread x2) (harg3.unread x3) (harg4.unread x4) (harg5.unread x5) (harg6.unread x6) (harg7.unread x7) (harg8.unread x8) (harg10.unread x10) VO0_11 VO0_11.junk
    768 le_rfl b k h i k.isLt
  unfold out0_A_11 kernelRun0_A
  dsimp only
  have ht : Scf.trips (0#32) (Scalar.addi 0#32 768#32) 1#32 = 768 := trips_eq
  rw [ht]
  have hl := load_state arg9 harg9 x9
  refine Eq.trans e ?_
  rw [h0, h1, h2, h3, h4, h5, h6, h7, h8, h10, hl]

/-- What the body leaves in its second output, from what it finds in its inputs. -/
theorem body12_at (b : Fin 2) (h : Fin 16) (i j : Fin 64) :
    out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix4 b h i j) = (inputsOf x0 x1 x2 x3 x4 x5 x6 x7 x8 x9 x10).state b h 768 i j := by
  have h0 : arg0.view.read (Elt Ideal) (harg0.unread x0) = x0 := harg0.read_unread x0
  have h1 : arg1.view.read (Elt Ideal) (harg1.unread x1) = x1 := harg1.read_unread x1
  have h2 : arg2.view.read (Elt Ideal) (harg2.unread x2) = x2 := harg2.read_unread x2
  have h3 : arg3.view.read (Elt Ideal) (harg3.unread x3) = x3 := harg3.read_unread x3
  have h4 : arg4.view.read (Elt Ideal) (harg4.unread x4) = x4 := harg4.read_unread x4
  have h5 : arg5.view.read (Elt Ideal) (harg5.unread x5) = x5 := harg5.read_unread x5
  have h6 : arg6.view.read (Elt Ideal) (harg6.unread x6) = x6 := harg6.read_unread x6
  have h7 : arg7.view.read (Elt Ideal) (harg7.unread x7) = x7 := harg7.read_unread x7
  have h8 : arg8.view.read (Elt Ideal) (harg8.unread x8) = x8 := harg8.read_unread x8
  have h9 : arg9.view.read (Elt Ideal) (harg9.unread x9) = x9 := harg9.read_unread x9
  have h10 : arg10.view.read (Elt Ideal) (harg10.unread x10) = x10 := harg10.read_unread x10
  have e := loop_state Variants.none c none arg0 harg0 arg1 harg1 arg2 harg2 arg3 harg3 arg4 harg4 arg5 harg5 arg6 harg6 arg7 harg7 arg8 harg8 arg9 harg9 arg10 harg10 arg11 harg11 arg12 harg12
    (arg9.view.readAt (Elt Ideal) (Rect.unit (s := S2x16x64x64) ![0, 0, 0, 0] S2x16x64x64.size inb_S2x16x64x64_S2x16x64x64_0_0_0_0).toLoadRect (harg9.unread x9))
    (harg0.unread x0) (harg1.unread x1) (harg2.unread x2) (harg3.unread x3) (harg4.unread x4) (harg5.unread x5) (harg6.unread x6) (harg7.unread x7) (harg8.unread x8) (harg10.unread x10) 768 le_rfl b h i j
  unfold out0_A_12 kernelRun0_A
  dsimp only
  have ht : Scf.trips (0#32) (Scalar.addi 0#32 768#32) 1#32 = 768 := trips_eq
  rw [ht]
  have hl := load_state arg9 harg9 x9
  refine (congrFun (View.read_writes_full VO0_12 VO0_12.junk inb_S2x16x64x64_S2x16x64x64_0_0_0_0 _ []) (ix4 b h i j)).trans ?_
  refine Eq.trans e ?_
  rw [h0, h1, h2, h3, h4, h5, h6, h7, h8, h10, hl]

end Body

end Cert.ReferenceIdeal.Run

end
-- ==== Proof.RefArrays.lean ====
/- The reference's result arrays are the recurrence's outputs and last states. -/
module

public import proofs.«01_k».proof.Proof.RefBody

@[expose] public section

set_option maxRecDepth 16384

noncomputable section

namespace Cert.ReferenceIdeal.Run

open Idealize.ShloMosaic Idealize.ShloMosaic.TcCoe
open Idealize.SL.Sem
open Idealize.ShloMosaic.Pipeline (Dat)
open Cert.ReferenceIdeal.Gen

variable (m : (ℓ : Loc nD τ sig) → Buf (Elt Ideal) ℓ) (c : Dev nD)

/-- Every window's block starts at the origin. -/
theorem idx : ∀ t : Fin cfg0.N, win0_0.index t = ![0, 0, 0, 0]
    ∧ win0_1.index t = ![0, 0, 0, 0]
    ∧ win0_2.index t = ![0, 0, 0, 0]
    ∧ win0_3.index t = ![0, 0, 0]
    ∧ win0_4.index t = ![0, 0, 0]
    ∧ win0_5.index t = ![0, 0, 0]
    ∧ win0_6.index t = ![0, 0, 0, 0]
    ∧ win0_7.index t = ![0, 0, 0, 0]
    ∧ win0_8.index t = ![0, 0, 0, 0]
    ∧ win0_9.index t = ![0, 0, 0, 0]
    ∧ win0_10.index t = ![0, 0]
    ∧ win0_11.index t = ![0, 0, 0, 0]
    ∧ win0_12.index t = ![0, 0, 0, 0] :=
  (by decide +kernel : ∀ t : Fin grid0.N, _)

/-- Window 0's block is its whole array. -/
theorem iblk0 (t : Fin cfg0.N) : (iblk m c 0 t : Vec Ideal S2x768x16x64 .fp8e4m3) = m ((c : Thread nD τ).loc main_arg0) := by
  funext y
  idx_vars y
  blk_point [iblk, V, (idx t).1]

/-- Window 1's block is its whole array. -/
theorem iblk1 (t : Fin cfg0.N) : (iblk m c 1 t : Vec Ideal S2x768x16x64 .fp8e4m3) = m ((c : Thread nD τ).loc main_arg1) := by
  funext y
  idx_vars y
  blk_point [iblk, V, (idx t).2.1]

/-- Window 2's block is its whole array. -/
theorem iblk2 (t : Fin cfg0.N) : (iblk m c 2 t : Vec Ideal S2x768x16x64 .fp8e4m3) = m ((c : Thread nD τ).loc main_arg2) := by
  funext y
  idx_vars y
  blk_point [iblk, V, (idx t).2.2.1]

/-- Window 3's block is its whole array. -/
theorem iblk3 (t : Fin cfg0.N) : (iblk m c 3 t : Vec Ideal S2x768x16 .f32) = m ((c : Thread nD τ).loc main_arg3) := by
  funext y
  idx_vars y
  blk_point [iblk, V, (idx t).2.2.2.1]

/-- Window 4's block is its whole array. -/
theorem iblk4 (t : Fin cfg0.N) : (iblk m c 4 t : Vec Ideal S2x768x16 .f32) = m ((c : Thread nD τ).loc main_arg4) := by
  funext y
  idx_vars y
  blk_point [iblk, V, (idx t).2.2.2.2.1]

/-- Window 5's block is its whole array. -/
theorem iblk5 (t : Fin cfg0.N) : (iblk m c 5 t : Vec Ideal S2x768x16 .f32) = m ((c : Thread nD τ).loc main_arg5) := by
  funext y
  idx_vars y
  blk_point [iblk, V, (idx t).2.2.2.2.2.1]

/-- Window 6's block is its whole array. -/
theorem iblk6 (t : Fin cfg0.N) : (iblk m c 6 t : Vec Ideal S2x768x16x64 .bf16) = m ((c : Thread nD τ).loc main_arg6) := by
  funext y
  idx_vars y
  blk_point [iblk, V, (idx t).2.2.2.2.2.2.1]

/-- Window 7's block is its whole array. -/
theorem iblk7 (t : Fin cfg0.N) : (iblk m c 7 t : Vec Ideal S2x768x16x64 .bf16) = m ((c : Thread nD τ).loc main_arg7) := by
  funext y
  idx_vars y
  blk_point [iblk, V, (idx t).2.2.2.2.2.2.2.1]

/-- Window 8's block is its whole array. -/
theorem iblk8 (t : Fin cfg0.N) : (iblk m c 8 t : Vec Ideal S2x768x16x64 .bf16) = m ((c : Thread nD τ).loc main_arg8) := by
  funext y
  idx_vars y
  blk_point [iblk, V, (idx t).2.2.2.2.2.2.2.2.1]

/-- Window 9's block is its whole array. -/
theorem iblk9 (t : Fin cfg0.N) : (iblk m c 9 t : Vec Ideal S2x16x64x64 .f32) = m ((c : Thread nD τ).loc main_arg9) := by
  funext y
  idx_vars y
  blk_point [iblk, V, (idx t).2.2.2.2.2.2.2.2.2.1]

/-- The flags' block is the flags as words. -/
theorem iblk10 (t : Fin cfg0.N) : (iblk m c 10 t : Vec Ideal S2x768 .i32)
    = extui 32 (m ((c : Thread nD τ).loc main_arg10) : Vec Ideal S2x768 .i1) natLt_1_32 := by
  funext y
  idx_vars y
  blk_point [iblk, V, (idx t).2.2.2.2.2.2.2.2.2.2.1]

/-- The inputs of the recurrence, read off the argument arrays. -/
def inputs : Cert.Math.Inputs where
  r b t h j := (m ((c : Thread nD τ).loc main_arg0) : Vec Ideal S2x768x16x64 .fp8e4m3) (ix4 b t h j)
  k b t h j := (m ((c : Thread nD τ).loc main_arg1) : Vec Ideal S2x768x16x64 .fp8e4m3) (ix4 b t h j)
  v b t h j := (m ((c : Thread nD τ).loc main_arg2) : Vec Ideal S2x768x16x64 .fp8e4m3) (ix4 b t h j)
  rs b t h := (m ((c : Thread nD τ).loc main_arg3) : Vec Ideal S2x768x16 .f32) (ix3 b t h)
  ks b t h := (m ((c : Thread nD τ).loc main_arg4) : Vec Ideal S2x768x16 .f32) (ix3 b t h)
  vs b t h := (m ((c : Thread nD τ).loc main_arg5) : Vec Ideal S2x768x16 .f32) (ix3 b t h)
  wl b t h j := (m ((c : Thread nD τ).loc main_arg6) : Vec Ideal S2x768x16x64 .bf16) (ix4 b t h j)
  kk b t h j := (m ((c : Thread nD τ).loc main_arg7) : Vec Ideal S2x768x16x64 .bf16) (ix4 b t h j)
  ic b t h j := (m ((c : Thread nD τ).loc main_arg8) : Vec Ideal S2x768x16x64 .bf16) (ix4 b t h j)
  s0 b h i j := (m ((c : Thread nD τ).loc main_arg9) : Vec Ideal S2x16x64x64 .f32) (ix4 b h i j)
  seg b t := decide ((m ((c : Thread nD τ).loc main_arg10) : Vec Ideal S2x768 .i1) (ix2 b t) ≠ (0#1 : BitVec 1))

/-- A bit widened to a word is nonzero exactly when it is set. -/
theorem word_ne (b : BitVec 1) : decide (b.setWidth 32 ≠ 0#32) = decide (b ≠ 0#1) := by
  revert b; decide

/-- The arrays the body finds are the argument arrays. -/
theorem inputs_eq (t : Fin cfg0.N) : inputsOf (iblk m c 0 t) (iblk m c 1 t) (iblk m c 2 t) (iblk m c 3 t) (iblk m c 4 t) (iblk m c 5 t) (iblk m c 6 t) (iblk m c 7 t) (iblk m c 8 t) (iblk m c 9 t) (iblk m c 10 t) = inputs m c := by
  rw [iblk0, iblk1, iblk2, iblk3, iblk4, iblk5, iblk6, iblk7, iblk8, iblk9, iblk10]
  unfold inputsOf inputs
  congr 1
  funext b t
  exact word_ne _

/-- The reference's first result: the recurrence's outputs. -/
theorem out11_at (t : Fin cfg0.N) (b : Fin 2) (k : Fin 768) (h : Fin 16) (i : Fin 64) :
    (outsAt0 m c t).1 (ix4 b k h i) = (inputs m c).y b h k i := by
  rw [← inputs_eq m c t]
  have e := body11_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) b k h i
  unfold outsAt0
  exact e

/-- The reference's second result: the recurrence's last states. -/
theorem out12_at (t : Fin cfg0.N) (b : Fin 2) (h : Fin 16) (i j : Fin 64) :
    (outsAt0 m c t).2 (ix4 b h i j) = (inputs m c).state b h 768 i j := by
  rw [← inputs_eq m c t]
  have e := body12_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) b h i j
  unfold outsAt0
  dsimp only
  exact e

/-- The reference's output array. -/
theorem arr11_at (b : Fin 2) (k : Fin 768) (h : Fin 16) (i : Fin 64) :
    ((dats m 0 c).arrAt 11 cfg0.N : Vec Ideal S2x768x16x64 .bf16) (ix4 b k h i) = (inputs m c).y b h k i := by
  have e : (dats m 0 c).arrAt 11 cfg0.N = (fun y => (inputs m c).y (y 0) (y 2) (y 1) (y 3) : Vec Ideal S2x768x16x64 .bf16) := by
    refine (dats m 0 c).arrAt_eq_of_after_last 11 t0_0 (by decide +kernel) _ fun j => ?_
    blk_simp
    rw [after0_11]
    idx_vars j
    exact out11_at m c t0_0 j0 j1 j2 j3
  exact congrFun e (ix4 b k h i)

/-- The reference's state array. -/
theorem arr12_at (b : Fin 2) (h : Fin 16) (i j : Fin 64) :
    ((dats m 0 c).arrAt 12 cfg0.N : Vec Ideal S2x16x64x64 .f32) (ix4 b h i j) = (inputs m c).state b h 768 i j := by
  have e : (dats m 0 c).arrAt 12 cfg0.N = (fun y => (inputs m c).state (y 0) (y 1) 768 (y 2) (y 3) : Vec Ideal S2x16x64x64 .f32) := by
    refine (dats m 0 c).arrAt_eq_of_after_last 12 t0_0 (by decide +kernel) _ fun j => ?_
    blk_simp
    rw [after0_12]
    idx_vars j
    exact out12_at m c t0_0 j0 j1 j2 j3
  exact congrFun e (ix4 b h i j)

end Cert.ReferenceIdeal.Run

end
-- ==== Proof.RefResults.lean ====
/- The reference's run, stated as one fact: what its two results hold at the end, and its arguments unchanged. -/
module

public import proofs.«01_k».proof.Proof.RefArrays

@[expose] public section

set_option maxRecDepth 16384

noncomputable section

namespace Cert.ReferenceIdeal.Run

open Idealize.ShloMosaic Idealize.ShloMosaic.TcCoe Idealize.SL.Sem
open Cert.ReferenceIdeal.Gen

variable (m : (ℓ : Loc nD τ sig) → Buf (Elt Ideal) ℓ) (ρ : Dev nD → PrngReg)

/-- What the reference's first result holds at the end of a run. -/
def res0 (c : Dev nD) : Buf (Elt Ideal) ((c.tc : Thread nD τ).loc main_v1_0) := (dats m 0 c).arrAt 11 cfg0.N

/-- What the reference's second result holds at the end of a run. -/
def res1 (c : Dev nD) : Buf (Elt Ideal) ((c.tc : Thread nD τ).loc main_v1_1) := (dats m 0 c).arrAt 12 cfg0.N

/-- Every fair run ends with the results as named and the arguments unchanged. -/
theorem results : θ_run defs (onTc (τ := τ) (main (F := Ideal))) ⟨m, fun _ => 0, ρ⟩ (fun r => ∀ c : Dev nD,
      r.2.mem ((c.tc : Thread nD τ).loc main_v1_0) = res0 m c
      ∧ r.2.mem ((c.tc : Thread nD τ).loc main_v1_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c).1 11, (h.1 c).1 12, h.2.1 c⟩) (θ_run_and (run_main m ρ) (frame m ρ))

end Cert.ReferenceIdeal.Run

end
-- ==== Proof.Algebraic.lean ====
/- The two programs compute the same two results from the same arguments, over exact arithmetic. -/
module

public import proofs.«01_k».proof.Defs
public import proofs.«01_k».proof.Proof.Results
public import proofs.«01_k».proof.Proof.RefResults

@[expose] public section

set_option maxRecDepth 16384

noncomputable section

namespace Cert.Algebraic

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def SameArgs : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable {m m'} in
/-- Equal arguments give the recurrence equal inputs. -/
theorem inputs_same (h : SameArgs m m') (c : Dev Cert.KernelIdeal.nD) :
    Cert.ReferenceIdeal.Run.inputs m' c = Cert.KernelIdeal.Run.inputs m c := by
  obtain ⟨h0, h1, h2, h3, h4, h5, h6, h7, h8, h9, h10⟩ := h c
  unfold Cert.ReferenceIdeal.Run.inputs Cert.KernelIdeal.Run.inputs
  rw [h0, h1, h2, h3, h4, h5, h6, h7, h8, h9, h10]

variable {m m'} in
/-- The first results agree. -/
theorem res0_same (h : SameArgs m m') (c : Dev Cert.KernelIdeal.nD) :
    Cert.ReferenceIdeal.Run.res0 m' c = Cert.KernelIdeal.Run.res0 m c := by
  funext y
  idx_vars y
  refine (Cert.ReferenceIdeal.Run.arr11_at m' c y0 y1 y2 y3).trans ?_
  rw [inputs_same h c]
  exact (Cert.KernelIdeal.Run.v23_at m c y0 y1 y2 y3).symm

variable {m m'} in
/-- The second results agree. -/
theorem res1_same (h : SameArgs m m') (c : Dev Cert.KernelIdeal.nD) :
    Cert.ReferenceIdeal.Run.res1 m' c = Cert.KernelIdeal.Run.res1 m c := by
  funext y
  idx_vars y
  refine (Cert.ReferenceIdeal.Run.arr12_at m' c y0 y1 y2 y3).trans ?_
  rw [inputs_same h c]
  exact (Cert.KernelIdeal.Run.v24_at m c y0 y1 y2 y3).symm

/-- The kernel and the reference end with the same two results, and with their arguments unchanged. -/
theorem algebraic : Cert.algebraic_KernelIdeal_ReferenceIdeal := fun m g m' g' _ h =>
  ⟨Cert.KernelIdeal.Run.res0 m, Cert.KernelIdeal.Run.res1 m, Cert.KernelIdeal.Run.results m g,
    (θ_run Cert.ReferenceIdeal.defs _ _).mono (fun _ hr c =>
        ⟨(hr c).1.trans (res0_same h c), (hr c).2.1.trans (res1_same h c), (hr c).2.2⟩)
      (Cert.ReferenceIdeal.Run.results m' g')⟩

end Cert.Algebraic

end
-- ==== Proof.lean ====
module

public import proofs.«01_k».proof.Defs
public import proofs.«01_k».proof.Proof.Same
public import proofs.«01_k».proof.Proof.Algebraic

@[expose] public section

noncomputable section

namespace Cert.Proof

open Idealize.ShloMosaic Idealize.SL.Sem Cert.Kernel

/-- The five claims: the three programs' runs end with their arguments unchanged and every counter at zero, the kernel is
    the program its exact reading was taken from, and the kernel and the reference compute the same two results. -/
theorem claim : Cert.Claim := ⟨Cert.Kernel.Gen.facts, Cert.KernelIdeal.Gen.facts, Cert.ReferenceIdeal.Gen.facts,
  fun m ρ _ => Cert.Same.frame m ρ,
  fun m ρ _ => Cert.KernelIdeal.Run.frame m ρ,
  fun m ρ _ => Cert.ReferenceIdeal.Gen.frame m ρ,
  trivial,
  Cert.Algebraic.algebraic⟩

end Cert.Proof

end
